-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_probabilities [hPre_probabilities : Cert.Pre_probabilities.Facts] (m : (ℓ : Loc Cert.KernelIdeal.nD Cert.KernelIdeal.τ Cert.KernelIdeal.sig) → Buf (Elt Ideal) ℓ) : Prop :=
  ∀ c : Dev Cert.KernelIdeal.nD,
    (Cert.Pre_probabilities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_probabilities [hPre_probabilities : Cert.Pre_probabilities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_probabilities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_probabilities [hKernelIdeal : Cert.KernelIdeal.Facts] [hPre_probabilities : Cert.Pre_probabilities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_probabilities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_probabilities [hReferenceIdeal : Cert.ReferenceIdeal.Facts] [hPre_probabilities : Cert.Pre_probabilities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_probabilities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_tenth" .f32 0x41200000#32 ((134217728 / 13421773 : ℝ) : EReal)
  ∧ IdealRules.named_const.Statement Cert.KernelIdeal.κ "inv_fifth" .f32 0x40A00000#32 ((67108864 / 13421773 : ℝ) : EReal)

def algebraic_KernelIdeal_ReferenceIdeal_pre_probabilities [hKernelIdeal : Cert.KernelIdeal.Facts] [hReferenceIdeal : Cert.ReferenceIdeal.Facts] [hPre_probabilities : Cert.Pre_probabilities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_probabilities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_probabilities : Cert.Pre_probabilities.Facts),
    quiescent_Kernel (hKernel := hKernel)
    ∧ quiescent_KernelIdeal (hKernelIdeal := hKernelIdeal)
    ∧ quiescent_KernelIdeal_pre_probabilities (hKernelIdeal := hKernelIdeal) (hPre_probabilities := hPre_probabilities)
    ∧ quiescent_ReferenceIdeal (hReferenceIdeal := hReferenceIdeal)
    ∧ quiescent_ReferenceIdeal_pre_probabilities (hReferenceIdeal := hReferenceIdeal) (hPre_probabilities := hPre_probabilities)
    ∧ preserves_Kernel_KernelIdeal
    ∧ algebraic_KernelIdeal_ReferenceIdeal_pre_probabilities (hKernelIdeal := hKernelIdeal) (hReferenceIdeal := hReferenceIdeal) (hPre_probabilities := hPre_probabilities)
-- ==== Pre_probabilities.lean ====
abbrev S8x20000x80 : Shape := ⟨3, ![8, 20000, 80]⟩
abbrev S8x20000x4 : Shape := ⟨3, ![8, 20000, 4]⟩
abbrev S8x20000x256 : Shape := ⟨3, ![8, 20000, 256]⟩
abbrev S1x20000x4 : Shape := ⟨3, ![1, 20000, 4]⟩
abbrev S8x32x11 : Shape := ⟨3, ![8, 32, 11]⟩
abbrev S8x3 : Shape := ⟨2, ![8, 3]⟩
abbrev S_ : Shape := ⟨0, ![]⟩

class Facts : Prop where
  bcast_S_S8x20000x80 : S_.BroadcastsInDim S8x20000x80 (![] : Fin 0 → Fin S8x20000x80.rank)

variable [Facts]

def fn {F : FTy → Type} [FloatOps F] (main_arg0 : FVec F S8x20000x80 .f32) (main_arg1 : FVec F S8x20000x4 .f32) (main_arg2 : FVec F S8x20000x256 .f32) (main_arg3 : FVec F S1x20000x4 .f32) (main_arg4 : FVec F S8x32x11 .f32) (main_arg5 : FVec F S8x3 .f32) (main_arg6 : IVec S_ 32) : IVec S8x20000x80 1 :=
  let main_cst : FVec F S_ .f32 := constant S_ .f32 0x38D1B717#32
  let main_v0 : FVec F S8x20000x80 .f32 := broadcastInDim S8x20000x80 ![] bcast_S_S8x20000x80 main_cst
  let main_v1 : IVec S8x20000x80 1 := cmpf .oge main_arg0 main_v0
  let main_cst_0 : FVec F S_ .f32 := constant S_ .f32 0x3F7FF972#32
  let main_v2 : FVec F S8x20000x80 .f32 := broadcastInDim S8x20000x80 ![] bcast_S_S8x20000x80 main_cst_0
  let main_v3 : IVec S8x20000x80 1 := cmpf .ole main_arg0 main_v2
  let main_v4 : IVec S8x20000x80 1 := andi main_v1 main_v3
  main_v4
-- ==== Kernel.lean ====
abbrev S8x20000x80 : Shape := ⟨3, ![8, 20000, 80]⟩
abbrev S8x20000x4 : Shape := ⟨3, ![8, 20000, 4]⟩
abbrev S8x20000x256 : Shape := ⟨3, ![8, 20000, 256]⟩
abbrev S1x20000x4 : Shape := ⟨3, ![1, 20000, 4]⟩
abbrev S8x32x11 : Shape := ⟨3, ![8, 32, 11]⟩
abbrev S8x3 : Shape := ⟨2, ![8, 3]⟩
abbrev S_ : Shape := ⟨0, ![]⟩
abbrev S8x4x20000 : Shape := ⟨3, ![8, 4, 20000]⟩
abbrev S8x4x1x20000 : Shape := ⟨4, ![8, 4, 1, 20000]⟩
abbrev S8x1x4x20000 : Shape := ⟨4, ![8, 1, 4, 20000]⟩
abbrev S20000x4 : Shape := ⟨2, ![20000, 4]⟩
abbrev S4x20000 : Shape := ⟨2, ![4, 20000]⟩
abbrev S4x1x20000 : Shape := ⟨3, ![4, 1, 20000]⟩
abbrev S1x4x20000 : Shape := ⟨3, ![1, 4, 20000]⟩
abbrev S8x32x5 : Shape := ⟨3, ![8, 32, 5]⟩
abbrev S8x5x32 : Shape := ⟨3, ![8, 5, 32]⟩
abbrev S8x128 : Shape := ⟨2, ![8, 128]⟩
abbrev S8x1 : Shape := ⟨2, ![8, 1]⟩
abbrev S8 : Shape := ⟨1, ![8]⟩
abbrev S1 : Shape := ⟨1, ![1]⟩
abbrev S2 : Shape := ⟨1, ![2]⟩
abbrev S1x20000x80 : Shape := ⟨3, ![1, 20000, 80]⟩
abbrev S1x1x4x20000 : Shape := ⟨4, ![1, 1, 4, 20000]⟩
abbrev S1x32x5 : Shape := ⟨3, ![1, 32, 5]⟩
abbrev S1x5x32 : Shape := ⟨3, ![1, 5, 32]⟩
abbrev S32x5 : Shape := ⟨2, ![32, 5]⟩
abbrev S5x32 : Shape := ⟨2, ![5, 32]⟩
abbrev S32x1 : Shape := ⟨2, ![32, 1]⟩
abbrev S1x20000 : Shape := ⟨2, ![1, 20000]⟩
abbrev S32x20000 : Shape := ⟨2, ![32, 20000]⟩
abbrev S20000 : Shape := ⟨1, ![20000]⟩
abbrev S1x1x20000 : Shape := ⟨3, ![1, 1, 20000]⟩
abbrev S1x1x1 : Shape := ⟨3, ![1, 1, 1]⟩
abbrev S5x20000 : Shape := ⟨2, ![5, 20000]⟩
abbrev S32x80 : Shape := ⟨2, ![32, 80]⟩
abbrev S20000x80 : Shape := ⟨2, ![20000, 80]⟩
abbrev S1x80 : Shape := ⟨2, ![1, 80]⟩
abbrev S1x1x80 : Shape := ⟨3, ![1, 1, 80]⟩
abbrev S1x128 : Shape := ⟨2, ![1, 128]⟩

abbrev nBuf : Space → Nat
  | .hbm => 45
  | .vmem => 10
  | .smem => 0
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S8x20000x256, .f32⟩
  | .hbm, ⟨3, _⟩ => ⟨S1x20000x4, .f32⟩
  | .hbm, ⟨4, _⟩ => ⟨S8x32x11, .f32⟩
  | .hbm, ⟨5, _⟩ => ⟨S8x3, .f32⟩
  | .hbm, ⟨6, _⟩ => ⟨S_, .i32⟩
  | .hbm, ⟨7, _⟩ => ⟨S8x4x20000, .f32⟩
  | .hbm, ⟨8, _⟩ => ⟨S8x4x1x20000, .f32⟩
  | .hbm, ⟨9, _⟩ => ⟨S8x1x4x20000, .f32⟩
  | .hbm, ⟨10, _⟩ => ⟨S20000x4, .f32⟩
  | .hbm, ⟨11, _⟩ => ⟨S4x20000, .f32⟩
  | .hbm, ⟨12, _⟩ => ⟨S4x1x20000, .f32⟩
  | .hbm, ⟨13, _⟩ => ⟨S1x4x20000, .f32⟩
  | .hbm, ⟨14, _⟩ => ⟨S8x32x5, .f32⟩
  | .hbm, ⟨15, _⟩ => ⟨S8x5x32, .f32⟩
  | .hbm, ⟨16, _⟩ => ⟨S8x128, .f32⟩
  | .hbm, ⟨17, _⟩ => ⟨S8x1, .f32⟩
  | .hbm, ⟨18, _⟩ => ⟨S8, .f32⟩
  | .hbm, ⟨19, _⟩ => ⟨S8x1, .f32⟩
  | .hbm, ⟨20, _⟩ => ⟨S8, .f32⟩
  | .hbm, ⟨21, _⟩ => ⟨S8x1, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S2, .f32⟩
  | .local _ .vmem, ⟨0, _⟩ => ⟨S1x20000x80, .f32⟩
  | .local _ .vmem, ⟨1, _⟩ => ⟨S1x20000x80, .f32⟩
  | .local _ .vmem, ⟨2, _⟩ => ⟨S1x1x4x20000, .f32⟩
  | .local _ .vmem, ⟨3, _⟩ => ⟨S1x1x4x20000, .f32⟩
  | .local _ .vmem, ⟨4, _⟩ => ⟨S1x4x20000, .f32⟩
  | .local _ .vmem, ⟨5, _⟩ => ⟨S1x32x5, .f32⟩
  | .local _ .vmem, ⟨6, _⟩ => ⟨S1x32x5, .f32⟩
  | .local _ .vmem, ⟨7, _⟩ => ⟨S1x5x32, .f32⟩
  | .local _ .vmem, ⟨8, _⟩ => ⟨S1x5x32, .f32⟩
  | .local _ .vmem, ⟨9, _⟩ => ⟨S8x128, .f32⟩
  | _, _ => ⟨S8x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_cst_0 : Ref sig .tc := ⟨.hbm, 27, rfl⟩
abbrev main_call0_v10 : Ref sig .tc := ⟨.hbm, 28, rfl⟩
abbrev main_call0_v11 : Ref sig .tc := ⟨.hbm, 29, rfl⟩
abbrev main_call0_cst_1 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst_2 : Ref sig .tc := ⟨.hbm, 34, rfl⟩
abbrev main_call0_v15 : Ref sig .tc := ⟨.hbm, 35, rfl⟩
abbrev main_call0_cst_3 : Ref sig .tc := ⟨.hbm, 36, rfl⟩
abbrev main_call0_v16 : Ref sig .tc := ⟨.hbm, 37, rfl⟩
abbrev main_call0_cst_4 : Ref sig .tc := ⟨.hbm, 38, rfl⟩
abbrev main_call0_v17 : Ref sig .tc := ⟨.hbm, 39, rfl⟩
abbrev main_call0_cst_5 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_v9 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![8, 1], ![false, false]⟩

def k0_off1 (i : grid0.Coords) : Fin 2 → Nat :=
  let arg0 : BitVec 32 := BitVec.ofNat 32 (i 0).val
  let v227 : Index := Scalar.indexCast arg0
  let c0_68 : Index := 0#32
  ![v227.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x20000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x32x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x5x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "inv_fifth" => some ((67108864 / 13421773 : ℝ) : EReal)
  | "inv_tenth" => some ((134217728 / 13421773 : ℝ) : EReal)
  | _ => none
-- ==== ReferenceIdeal.lean ====
abbrev S8x20000x80 : Shape := ⟨3, ![8, 20000, 80]⟩
abbrev S8x20000x4 : Shape := ⟨3, ![8, 20000, 4]⟩
abbrev S8x20000x256 : Shape := ⟨3, ![8, 20000, 256]⟩
abbrev S1x20000x4 : Shape := ⟨3, ![1, 20000, 4]⟩
abbrev S8x32x11 : Shape := ⟨3, ![8, 32, 11]⟩
abbrev S8x3 : Shape := ⟨2, ![8, 3]⟩
abbrev S_ : Shape := ⟨0, ![]⟩
abbrev S20000x4 : Shape := ⟨2, ![20000, 4]⟩
abbrev S8x32x4 : Shape := ⟨3, ![8, 32, 4]⟩
abbrev S8x32x1 : Shape := ⟨3, ![8, 32, 1]⟩
abbrev S8x32 : Shape := ⟨2, ![8, 32]⟩
abbrev S20000x1 : Shape := ⟨2, ![20000, 1]⟩
abbrev S20000 : Shape := ⟨1, ![20000]⟩
abbrev S8x1x32 : Shape := ⟨3, ![8, 1, 32]⟩
abbrev S1x20000x1 : Shape := ⟨3, ![1, 20000, 1]⟩
abbrev S8x20000x32 : Shape := ⟨3, ![8, 20000, 32]⟩
abbrev S8x20000 : Shape := ⟨2, ![8, 20000]⟩
abbrev S8x20000x1 : Shape := ⟨3, ![8, 20000, 1]⟩
abbrev S8x20000x11 : Shape := ⟨3, ![8, 20000, 11]⟩
abbrev S8 : Shape := ⟨1, ![8]⟩
abbrev S1x80 : Shape := ⟨2, ![1, 80]⟩
abbrev S1x1x80 : Shape := ⟨3, ![1, 1, 80]⟩
abbrev S20000x80 : Shape := ⟨2, ![20000, 80]⟩
abbrev S1x20000 : Shape := ⟨2, ![1, 20000]⟩
abbrev S1 : Shape := ⟨1, ![1]⟩
abbrev S2 : Shape := ⟨1, ![2]⟩

abbrev nBuf : Space → Nat
  | .hbm => 333
  | .vmem => 0
  | .smem => 0
  | _ => 0

abbrev hbmTy0_0 (i : Nat) : BufTy := match i % 128 with
  | 0 => ⟨S8x20000x80, .f32⟩
  | 1 => ⟨S8x20000x4, .f32⟩
  | 2 => ⟨S8x20000x256, .f32⟩
  | 3 => ⟨S1x20000x4, .f32⟩
  | 4 => ⟨S8x32x11, .f32⟩
  | 5 => ⟨S8x3, .f32⟩
  | 6 => ⟨S_, .i32⟩
  | 7 => ⟨S20000x4, .f32⟩
  | 8 => ⟨S_, .f32⟩
  | 9 => ⟨S_, .f32⟩
  | 10 => ⟨S_, .f32⟩
  | 11 => ⟨S8x20000x80, .f32⟩
  | 12 => ⟨S8x20000x80, .f32⟩
  | 13 => ⟨S_, .f32⟩
  | 14 => ⟨S8x20000x80, .f32⟩
  | 15 => ⟨S8x20000x80, .f32⟩
  | 16 => ⟨S8x32x4, .f32⟩
  | 17 => ⟨S8x32x1, .f32⟩
  | 18 => ⟨S8x32, .f32⟩
  | 19 => ⟨S8x32x1, .f32⟩
  | 20 => ⟨S8x32, .f32⟩
  | 21 => ⟨S8x32, .f32⟩
  | 22 => ⟨S8x32x1, .f32⟩
  | 23 => ⟨S8x32, .f32⟩
  | 24 => ⟨S8x32x1, .f32⟩
  | 25 => ⟨S8x32, .f32⟩
  | 26 => ⟨S8x32, .f32⟩
  | 27 => ⟨S8x32, .f32⟩
  | 28 => ⟨S20000x1, .f32⟩
  | 29 => ⟨S20000, .f32⟩
  | 30 => ⟨S20000x1, .f32⟩
  | 31 => ⟨S8x32x1, .f32⟩
  | 32 => ⟨S8x32, .f32⟩
  | 33 => ⟨S8x1x32, .f32⟩
  | 34 => ⟨S1x20000x1, .f32⟩
  | 35 => ⟨S8x20000x32, .f32⟩
  | 36 => ⟨S8x20000x32, .f32⟩
  | 37 => ⟨S8x20000x32, .f32⟩
  | 38 => ⟨S20000x1, .f32⟩
  | 39 => ⟨S20000, .f32⟩
  | 40 => ⟨S20000x1, .f32⟩
  | 41 => ⟨S8x32x1, .f32⟩
  | 42 => ⟨S8x32, .f32⟩
  | 43 => ⟨S8x1x32, .f32⟩
  | 44 => ⟨S1x20000x1, .f32⟩
  | 45 => ⟨S8x20000x32, .f32⟩
  | 46 => ⟨S8x20000x32, .f32⟩
  | 47 => ⟨S8x20000x32, .f32⟩
  | 48 => ⟨S8x20000x32, .f32⟩
  | 49 => ⟨S20000x1, .f32⟩
  | 50 => ⟨S20000, .f32⟩
  | 51 => ⟨S20000x1, .f32⟩
  | 52 => ⟨S8x32x1, .f32⟩
  | 53 => ⟨S8x32, .f32⟩
  | 54 => ⟨S8x1x32, .f32⟩
  | 55 => ⟨S1x20000x1, .f32⟩
  | 56 => ⟨S8x20000x32, .f32⟩
  | 57 => ⟨S8x20000x32, .f32⟩
  | 58 => ⟨S8x20000x32, .f32⟩
  | 59 => ⟨S20000x1, .f32⟩
  | 60 => ⟨S20000, .f32⟩
  | 61 => ⟨S20000x1, .f32⟩
  | 62 => ⟨S8x32x1, .f32⟩
  | 63 => ⟨S8x32, .f32⟩
  | 64 => ⟨S8x1x32, .f32⟩
  | 65 => ⟨S1x20000x1, .f32⟩
  | 66 => ⟨S8x20000x32, .f32⟩
  | 67 => ⟨S8x20000x32, .f32⟩
  | 68 => ⟨S8x20000x32, .f32⟩
  | 69 => ⟨S8x20000x32, .f32⟩
  | 70 => ⟨S_, .f32⟩
  | 71 => ⟨S_, .f32⟩
  | 72 => ⟨S8x20000x32, .f32⟩
  | 73 => ⟨S8x20000x32, .f32⟩
  | 74 => ⟨S_, .f32⟩
  | 75 => ⟨S_, .f32⟩
  | 76 => ⟨S8x20000x32, .f32⟩
  | 77 => ⟨S8x20000x32, .f32⟩
  | 78 => ⟨S20000x1, .f32⟩
  | 79 => ⟨S20000, .f32⟩
  | 80 => ⟨S20000x1, .f32⟩
  | 81 => ⟨S20000, .f32⟩
  | 82 => ⟨S20000, .f32⟩
  | 83 => ⟨S20000x1, .f32⟩
  | 84 => ⟨S20000, .f32⟩
  | 85 => ⟨S20000x1, .f32⟩
  | 86 => ⟨S20000, .f32⟩
  | 87 => ⟨S20000, .f32⟩
  | 88 => ⟨S20000, .f32⟩
  | 89 => ⟨S20000x1, .f32⟩
  | 90 => ⟨S8x1x32, .f32⟩
  | 91 => ⟨S1x20000x1, .f32⟩
  | 92 => ⟨S8x20000x32, .f32⟩
  | 93 => ⟨S8x20000x32, .f32⟩
  | 94 => ⟨S8x20000x32, .f32⟩
  | 95 => ⟨S8x20000x32, .f32⟩
  | 96 => ⟨S8x20000x32, .f32⟩
  | 97 => ⟨S_, .f32⟩
  | 98 => ⟨S_, .f32⟩
  | 99 => ⟨S8x20000x32, .f32⟩
  | 100 => ⟨S8x20000x32, .f32⟩
  | 101 => ⟨S8x20000x32, .f32⟩
  | 102 => ⟨S8x20000x32, .f32⟩
  | 103 => ⟨S_, .f32⟩
  | 104 => ⟨S8x20000, .f32⟩
  | 105 => ⟨S8x20000x32, .i32⟩
  | 106 => ⟨S_, .f32⟩
  | 107 => ⟨S_, .i32⟩
  | 108 => ⟨S8x20000, .f32⟩
  | 109 => ⟨S8x20000, .i32⟩
  | 110 => ⟨S_, .i32⟩
  | 111 => ⟨S8x20000, .i32⟩
  | 112 => ⟨S8x20000, .i1⟩
  | 113 => ⟨S_, .i32⟩
  | 114 => ⟨S8x20000, .i32⟩
  | 115 => ⟨S8x20000, .i32⟩
  | 116 => ⟨S8x20000, .i32⟩
  | 117 => ⟨S8x20000x1, .i32⟩
  | 118 => ⟨S8x20000x11, .f32⟩
  | 119 => ⟨S_, .f32⟩
  | 120 => ⟨S8x20000, .f32⟩
  | 121 => ⟨S8x20000, .i1⟩
  | 122 => ⟨S_, .f32⟩
  | 123 => ⟨S8x20000, .f32⟩
  | 124 => ⟨S8x20000, .i1⟩
  | 125 => ⟨S8x20000, .i1⟩
  | 126 => ⟨S8x20000, .i1⟩
  | 127 => ⟨S8x20000, .i32⟩
  | _ => ⟨S8x20000x80, .f32⟩

abbrev hbmTy0_1 (i : Nat) : BufTy := match i % 128 with
  | 0 => ⟨S_, .i32⟩
  | 1 => ⟨S8, .i32⟩
  | 2 => ⟨S8, .f32⟩
  | 3 => ⟨S8x20000x1, .f32⟩
  | 4 => ⟨S8x20000, .f32⟩
  | 5 => ⟨S8x20000, .i32⟩
  | 6 => ⟨S8x20000x1, .i32⟩
  | 7 => ⟨S1x80, .i32⟩
  | 8 => ⟨S1x1x80, .i32⟩
  | 9 => ⟨S8x20000x80, .i32⟩
  | 10 => ⟨S8x20000x80, .i32⟩
  | 11 => ⟨S8x20000x80, .i1⟩
  | 12 => ⟨S8x20000x80, .f32⟩
  | 13 => ⟨S8x20000x1, .i1⟩
  | 14 => ⟨S_, .f32⟩
  | 15 => ⟨S_, .f32⟩
  | 16 => ⟨S8x20000x80, .i1⟩
  | 17 => ⟨S20000x80, .f32⟩
  | 18 => ⟨S8x20000x80, .f32⟩
  | 19 => ⟨S8x20000x80, .f32⟩
  | 20 => ⟨S8x20000x1, .i1⟩
  | 21 => ⟨S_, .f32⟩
  | 22 => ⟨S_, .f32⟩
  | 23 => ⟨S8x20000x80, .i1⟩
  | 24 => ⟨S20000x80, .f32⟩
  | 25 => ⟨S8x20000x80, .f32⟩
  | 26 => ⟨S8x20000x80, .f32⟩
  | 27 => ⟨S_, .f32⟩
  | 28 => ⟨S8x20000x80, .f32⟩
  | 29 => ⟨S8x20000x80, .i1⟩
  | 30 => ⟨S_, .f32⟩
  | 31 => ⟨S_, .f32⟩
  | 32 => ⟨S20000x80, .f32⟩
  | 33 => ⟨S20000x80, .f32⟩
  | 34 => ⟨S8x20000x80, .f32⟩
  | 35 => ⟨S8x20000x80, .f32⟩
  | 36 => ⟨S8x20000x80, .f32⟩
  | 37 => ⟨S_, .f32⟩
  | 38 => ⟨S8x20000x80, .f32⟩
  | 39 => ⟨S8x20000x80, .i1⟩
  | 40 => ⟨S_, .f32⟩
  | 41 => ⟨S8x20000x80, .f32⟩
  | 42 => ⟨S8x20000x80, .f32⟩
  | 43 => ⟨S8x20000x80, .f32⟩
  | 44 => ⟨S_, .f32⟩
  | 45 => ⟨S8x20000x80, .f32⟩
  | 46 => ⟨S8x20000x80, .f32⟩
  | 47 => ⟨S8x20000x80, .f32⟩
  | 48 => ⟨S8x20000x80, .f32⟩
  | 49 => ⟨S8x20000x80, .f32⟩
  | 50 => ⟨S8x20000x80, .f32⟩
  | 51 => ⟨S_, .f32⟩
  | 52 => ⟨S8x20000x80, .f32⟩
  | 53 => ⟨S8x20000x80, .f32⟩
  | 54 => ⟨S_, .f32⟩
  | 55 => ⟨S8x20000x80, .f32⟩
  | 56 => ⟨S8x20000x80, .f32⟩
  | 57 => ⟨S8x20000x80, .f32⟩
  | 58 => ⟨S8x20000x80, .f32⟩
  | 59 => ⟨S8x20000x80, .f32⟩
  | 60 => ⟨S8x20000x80, .f32⟩
  | 61 => ⟨S_, .f32⟩
  | 62 => ⟨S8x20000x80, .f32⟩
  | 63 => ⟨S8x20000x80, .i1⟩
  | 64 => ⟨S8x20000x80, .f32⟩
  | 65 => ⟨S_, .f32⟩
  | 66 => ⟨S_, .f32⟩
  | 67 => ⟨S20000x80, .f32⟩
  | 68 => ⟨S8x20000x80, .f32⟩
  | 69 => ⟨S8x20000x80, .f32⟩
  | 70 => ⟨S_, .f32⟩
  | 71 => ⟨S8, .f32⟩
  | 72 => ⟨S_, .f32⟩
  | 73 => ⟨S8, .f32⟩
  | 74 => ⟨S8, .f32⟩
  | 75 => ⟨S8, .f32⟩
  | 76 => ⟨S20000x1, .f32⟩
  | 77 => ⟨S20000, .f32⟩
  | 78 => ⟨S20000x1, .f32⟩
  | 79 => ⟨S20000, .f32⟩
  | 80 => ⟨S20000, .f32⟩
  | 81 => ⟨S20000x1, .f32⟩
  | 82 => ⟨S20000, .f32⟩
  | 83 => ⟨S20000x1, .f32⟩
  | 84 => ⟨S20000, .f32⟩
  | 85 => ⟨S20000, .f32⟩
  | 86 => ⟨S20000x1, .f32⟩
  | 87 => ⟨S20000, .f32⟩
  | 88 => ⟨S_, .f32⟩
  | 89 => ⟨S20000, .f32⟩
  | 90 => ⟨S20000, .f32⟩
  | 91 => ⟨S20000, .f32⟩
  | 92 => ⟨S20000x1, .f32⟩
  | 93 => ⟨S20000, .f32⟩
  | 94 => ⟨S_, .f32⟩
  | 95 => ⟨S20000, .f32⟩
  | 96 => ⟨S20000, .f32⟩
  | 97 => ⟨S20000, .f32⟩
  | 98 => ⟨S8x20000x1, .f32⟩
  | 99 => ⟨S8x20000, .f32⟩
  | 100 => ⟨S8x20000x1, .f32⟩
  | 101 => ⟨S8x20000, .f32⟩
  | 102 => ⟨S8x20000, .f32⟩
  | 103 => ⟨S8x20000x1, .f32⟩
  | 104 => ⟨S8x20000, .f32⟩
  | 105 => ⟨S8x20000x1, .f32⟩
  | 106 => ⟨S8x20000, .f32⟩
  | 107 => ⟨S8x20000, .f32⟩
  | 108 => ⟨S8x20000x1, .f32⟩
  | 109 => ⟨S8x20000, .f32⟩
  | 110 => ⟨S_, .f32⟩
  | 111 => ⟨S8x20000, .f32⟩
  | 112 => ⟨S8x20000, .f32⟩
  | 113 => ⟨S8x20000, .f32⟩
  | 114 => ⟨S8x20000x1, .f32⟩
  | 115 => ⟨S8x20000, .f32⟩
  | 116 => ⟨S_, .f32⟩
  | 117 => ⟨S8x20000, .f32⟩
  | 118 => ⟨S8x20000, .f32⟩
  | 119 => ⟨S8x20000, .f32⟩
  | 120 => ⟨S_, .f32⟩
  | 121 => ⟨S_, .f32⟩
  | 122 => ⟨S8x20000, .f32⟩
  | 123 => ⟨S8x20000, .f32⟩
  | 124 => ⟨S_, .f32⟩
  | 125 => ⟨S_, .f32⟩
  | 126 => ⟨S8x20000, .f32⟩
  | 127 => ⟨S8x20000, .f32⟩
  | _ => ⟨S8x20000x80, .f32⟩

abbrev hbmTy0_2 (i : Nat) : BufTy := match i % 128 with
  | 0 => ⟨S1x20000, .f32⟩
  | 1 => ⟨S8x20000, .f32⟩
  | 2 => ⟨S8x20000, .f32⟩
  | 3 => ⟨S1x20000, .f32⟩
  | 4 => ⟨S8x20000, .f32⟩
  | 5 => ⟨S8x20000, .f32⟩
  | 6 => ⟨S1x20000, .f32⟩
  | 7 => ⟨S8x20000, .f32⟩
  | 8 => ⟨S8x20000, .f32⟩
  | 9 => ⟨S1x20000, .f32⟩
  | 10 => ⟨S8x20000, .f32⟩
  | 11 => ⟨S8x20000, .f32⟩
  | 12 => ⟨S1x20000, .f32⟩
  | 13 => ⟨S8x20000, .f32⟩
  | 14 => ⟨S8x20000, .f32⟩
  | 15 => ⟨S8x20000, .f32⟩
  | 16 => ⟨S1x20000, .f32⟩
  | 17 => ⟨S8x20000, .f32⟩
  | 18 => ⟨S8x20000, .f32⟩
  | 19 => ⟨S8x20000, .f32⟩
  | 20 => ⟨S_, .f32⟩
  | 21 => ⟨S8x20000, .f32⟩
  | 22 => ⟨S8x20000, .f32⟩
  | 23 => ⟨S_, .f32⟩
  | 24 => ⟨S8x20000, .f32⟩
  | 25 => ⟨S8x20000, .f32⟩
  | 26 => ⟨S_, .f32⟩
  | 27 => ⟨S8x20000, .f32⟩
  | 28 => ⟨S8x20000, .f32⟩
  | 29 => ⟨S_, .f32⟩
  | 30 => ⟨S8x20000, .f32⟩
  | 31 => ⟨S8x20000, .f32⟩
  | 32 => ⟨S8x20000x1, .f32⟩
  | 33 => ⟨S8x20000x1, .f32⟩
  | 34 => ⟨S8x20000x1, .f32⟩
  | 35 => ⟨S8x20000x1, .f32⟩
  | 36 => ⟨S8x20000x4, .f32⟩
  | 37 => ⟨S8x20000x4, .f32⟩
  | 38 => ⟨S8x20000x4, .f32⟩
  | 39 => ⟨S_, .f32⟩
  | 40 => ⟨S8x20000x4, .f32⟩
  | 41 => ⟨S8x20000x4, .i1⟩
  | 42 => ⟨S_, .f32⟩
  | 43 => ⟨S8x20000x4, .f32⟩
  | 44 => ⟨S8x20000x4, .f32⟩
  | 45 => ⟨S8x20000x4, .f32⟩
  | 46 => ⟨S_, .f32⟩
  | 47 => ⟨S8x20000x4, .f32⟩
  | 48 => ⟨S8x20000x4, .f32⟩
  | 49 => ⟨S8x20000x4, .f32⟩
  | 50 => ⟨S8x20000x1, .i1⟩
  | 51 => ⟨S_, .f32⟩
  | 52 => ⟨S_, .f32⟩
  | 53 => ⟨S8x20000x4, .i1⟩
  | 54 => ⟨S20000x4, .f32⟩
  | 55 => ⟨S8x20000x4, .f32⟩
  | 56 => ⟨S8x20000x4, .f32⟩
  | 57 => ⟨S_, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S1, .f32⟩
  | 75 => ⟨S1, .f32⟩
  | 76 => ⟨S2, .f32⟩
  | _ => ⟨S8x20000x80, .f32⟩

abbrev hbmTy (i : Nat) : BufTy := match i / 128 with
  | 0 => hbmTy0_0 i
  | 1 => hbmTy0_1 i
  | 2 => hbmTy0_2 i
  | _ => ⟨S8x20000x80, .f32⟩

abbrev bufTy : (tb : Table) → Fin (tcTables nBuf tb) → BufTy
  | .hbm, ⟨i, _⟩ => hbmTy i
  | _, _ => ⟨S8x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_1 : Ref sig .tc := ⟨.hbm, 70, rfl⟩
abbrev main_call1_v0 : Ref sig .tc := ⟨.hbm, 71, rfl⟩
abbrev main_call1_v1 : Ref sig .tc := ⟨.hbm, 72, rfl⟩
abbrev main_v56 : Ref sig .tc := ⟨.hbm, 73, rfl⟩
abbrev main_cst_2 : Ref sig .tc := ⟨.hbm, 74, rfl⟩
abbrev main_call2_v0 : Ref sig .tc := ⟨.hbm, 75, rfl⟩
abbrev main_call2_v1 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_3 : Ref sig .tc := ⟨.hbm, 97, rfl⟩
abbrev main_call3_v0 : Ref sig .tc := ⟨.hbm, 98, rfl⟩
abbrev main_call3_v1 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_4 : Ref sig .tc := ⟨.hbm, 103, rfl⟩
abbrev main_v80 : Ref sig .tc := ⟨.hbm, 104, rfl⟩
abbrev main_call4_v0 : Ref sig .tc := ⟨.hbm, 105, rfl⟩
abbrev main_call4_cst : Ref sig .tc := ⟨.hbm, 106, rfl⟩
abbrev main_call4_c : Ref sig .tc := ⟨.hbm, 107, rfl⟩
abbrev main_call4_v1_0 : Ref sig .tc := ⟨.hbm, 108, rfl⟩
abbrev main_v81 : Ref sig .tc := ⟨.hbm, 109, rfl⟩
abbrev main_c : Ref sig .tc := ⟨.hbm, 110, rfl⟩
abbrev main_v82 : Ref sig .tc := ⟨.hbm, 111, rfl⟩
abbrev main_v83 : Ref sig .tc := ⟨.hbm, 112, rfl⟩
abbrev main_c_5 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_6 : Ref sig .tc := ⟨.hbm, 119, rfl⟩
abbrev main_v89 : Ref sig .tc := ⟨.hbm, 120, rfl⟩
abbrev main_v90 : Ref sig .tc := ⟨.hbm, 121, rfl⟩
abbrev main_cst_7 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_8 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_v101 : Ref sig .tc := ⟨.hbm, 140, rfl⟩
abbrev main_v102 : Ref sig .tc := ⟨.hbm, 141, rfl⟩
abbrev main_cst_9 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_call6_v3 : Ref sig .tc := ⟨.hbm, 146, rfl⟩
abbrev main_v103 : Ref sig .tc := ⟨.hbm, 147, rfl⟩
abbrev main_v104 : Ref sig .tc := ⟨.hbm, 148, rfl⟩
abbrev main_cst_10 : Ref sig .tc := ⟨.hbm, 149, rfl⟩
abbrev main_call7_v0 : Ref sig .tc := ⟨.hbm, 150, rfl⟩
abbrev main_call7_v1 : Ref sig .tc := ⟨.hbm, 151, rfl⟩
abbrev main_call7_v2 : Ref sig .tc := ⟨.hbm, 152, rfl⟩
abbrev main_call7_v3 : Ref sig .tc := ⟨.hbm, 153, rfl⟩
abbrev main_v105 : Ref sig .tc := ⟨.hbm, 154, rfl⟩
abbrev main_cst_11 : Ref sig .tc := ⟨.hbm, 155, rfl⟩
abbrev main_v106 : Ref sig .tc := ⟨.hbm, 156, rfl⟩
abbrev main_v107 : Ref sig .tc := ⟨.hbm, 157, rfl⟩
abbrev main_cst_12 : Ref sig .tc := ⟨.hbm, 158, rfl⟩
abbrev main_cst_13 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_call8_v3 : Ref sig .tc := ⟨.hbm, 163, rfl⟩
abbrev main_v108 : Ref sig .tc := ⟨.hbm, 164, rfl⟩
abbrev main_cst_14 : Ref sig .tc := ⟨.hbm, 165, rfl⟩
abbrev main_v109 : Ref sig .tc := ⟨.hbm, 166, rfl⟩
abbrev main_v110 : Ref sig .tc := ⟨.hbm, 167, rfl⟩
abbrev main_cst_15 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_16 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_17 : Ref sig .tc := ⟨.hbm, 179, rfl⟩
abbrev main_v120 : Ref sig .tc := ⟨.hbm, 180, rfl⟩
abbrev main_v121 : Ref sig .tc := ⟨.hbm, 181, rfl⟩
abbrev main_cst_18 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_cst_19 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_20 : Ref sig .tc := ⟨.hbm, 193, rfl⟩
abbrev main_call10_v0 : Ref sig .tc := ⟨.hbm, 194, rfl⟩
abbrev main_call10_v1 : Ref sig .tc := ⟨.hbm, 195, rfl⟩
abbrev main_call10_v2 : Ref sig .tc := ⟨.hbm, 196, rfl⟩
abbrev main_v131 : Ref sig .tc := ⟨.hbm, 197, rfl⟩
abbrev main_cst_21 : Ref sig .tc := ⟨.hbm, 198, rfl⟩
abbrev main_v132 : Ref sig .tc := ⟨.hbm, 199, rfl⟩
abbrev main_cst_22 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_cst_23 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_cst_24 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_25 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_cst_26 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_cst_27 : Ref sig .tc := ⟨.hbm, 248, rfl⟩
abbrev main_call11_v0 : Ref sig .tc := ⟨.hbm, 249, rfl⟩
abbrev main_call11_v1 : Ref sig .tc := ⟨.hbm, 250, rfl⟩
abbrev main_v176 : Ref sig .tc := ⟨.hbm, 251, rfl⟩
abbrev main_cst_28 : Ref sig .tc := ⟨.hbm, 252, rfl⟩
abbrev main_call12_v0 : Ref sig .tc := ⟨.hbm, 253, rfl⟩
abbrev main_call12_v1 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_cst_29 : Ref sig .tc := ⟨.hbm, 276, rfl⟩
abbrev main_v198 : Ref sig .tc := ⟨.hbm, 277, rfl⟩
abbrev main_v199 : Ref sig .tc := ⟨.hbm, 278, rfl⟩
abbrev main_cst_30 : Ref sig .tc := ⟨.hbm, 279, rfl⟩
abbrev main_v200 : Ref sig .tc := ⟨.hbm, 280, rfl⟩
abbrev main_v201 : Ref sig .tc := ⟨.hbm, 281, rfl⟩
abbrev main_cst_31 : Ref sig .tc := ⟨.hbm, 282, rfl⟩
abbrev main_v202 : Ref sig .tc := ⟨.hbm, 283, rfl⟩
abbrev main_v203 : Ref sig .tc := ⟨.hbm, 284, rfl⟩
abbrev main_cst_32 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_cst_33 : Ref sig .tc := ⟨.hbm, 295, rfl⟩
abbrev main_v213 : Ref sig .tc := ⟨.hbm, 296, rfl⟩
abbrev main_v214 : Ref sig .tc := ⟨.hbm, 297, rfl⟩
abbrev main_cst_34 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_cst_35 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_cst_36 : Ref sig .tc := ⟨.hbm, 307, rfl⟩
abbrev main_call14_v0 : Ref sig .tc := ⟨.hbm, 308, rfl⟩
abbrev main_call14_v1 : Ref sig .tc := ⟨.hbm, 309, rfl⟩
abbrev main_call14_v2 : Ref sig .tc := ⟨.hbm, 310, rfl⟩
abbrev main_call14_v3 : Ref sig .tc := ⟨.hbm, 311, rfl⟩
abbrev main_v222 : Ref sig .tc := ⟨.hbm, 312, rfl⟩
abbrev main_cst_37 : Ref sig .tc := ⟨.hbm, 313, rfl⟩
abbrev main_v223 : Ref sig .tc := ⟨.hbm, 314, rfl⟩
abbrev main_cst_38 : Ref sig .tc := ⟨.hbm, 315, rfl⟩
abbrev main_v224 : Ref sig .tc := ⟨.hbm, 316, rfl⟩
abbrev main_v225 : Ref sig .tc := ⟨.hbm, 317, rfl⟩
abbrev main_cst_39 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_cst_40 : Ref sig .tc := ⟨.hbm, 322, rfl⟩
abbrev main_v229 : Ref sig .tc := ⟨.hbm, 323, rfl⟩
abbrev main_cst_41 : Ref sig .tc := ⟨.hbm, 324, rfl⟩
abbrev main_v230 : Ref sig .tc := ⟨.hbm, 325, rfl⟩
abbrev main_cst_42 : Ref sig .tc := ⟨.hbm, 326, rfl⟩
abbrev main_v231 : Ref sig .tc := ⟨.hbm, 327, rfl⟩
abbrev main_cst_43 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩

abbrev nD : Nat := 1
abbrev τ : Topo := Topo.v7x

variable {F : FTy → Type} [FloatOps F]
-- ==== Proof.Loss.lean ====
module

public import Idealize.ShloMosaic.Lib.Pointwise

/-!
The loss as mathematics over the extended reals: overlap ratios of one anchor with the boxes of one image, the box an
anchor is assigned to, the focal term of one anchor and class, the smooth absolute error of one anchor and coordinate,
their sums over an image and the two means over the images.
-/

@[expose] public section

noncomputable section

namespace Cert.FocalLoss

open Idealize.ShloMosaic

/-- The extended real of a 32-bit float literal. -/
abbrev lit (w : BitVec 32) : EReal := Ideal.ofBits .f32 w

/-- The box of one annotation: left, top, right, bottom, class and the columns that are not read. -/
abbrev Box := Fin 11 → EReal

/-- One anchor: left, top, right, bottom. -/
abbrev Anchor := Fin 4 → EReal

/-- The area common to an anchor and a box. -/
def meet (a : Anchor) (x : Box) : EReal :=
  max 0 (min (a 2) (x 2) - max (a 0) (x 0)) * max 0 (min (a 3) (x 3) - max (a 1) (x 1))

/-- The overlap ratio of an anchor and a box: the common area over the area of the union, the latter kept off zero. -/
def ratio (a : Anchor) (x : Box) : EReal :=
  Ideal.div (meet a x)
    (max (lit 0x322BCC77#32) ((a 2 - a 0) * (a 3 - a 1) + (x 2 - x 0) * (x 3 - x 1) - meet a x))

/-- The largest of 32 numbers. -/
def peak (u : Fin 32 → EReal) : EReal := Finset.univ.fold max ⊥ u

/-- No number exceeds the largest. -/
theorem le_peak (u : Fin 32 → EReal) (k : Fin 32) : u k ≤ peak u :=
  Finset.le_sup (f := u) (Finset.mem_univ k)

/-- The largest number is one of them. -/
theorem exists_peak (u : Fin 32 → EReal) : ∃ k, u k = peak u := by
  obtain ⟨k, _, h⟩ := Finset.exists_mem_eq_sup Finset.univ ⟨0, Finset.mem_univ _⟩ u
  exact ⟨k, h.symm⟩

/-- Some index at which the largest number stands precedes every other such index. -/
theorem exists_first (u : Fin 32 → EReal) : ∃ k, u k = peak u ∧ ∀ l, u l = peak u → k ≤ l := by
  classical
  obtain ⟨k, hk⟩ := exists_peak u
  have hne : (Finset.univ.filter fun l => u l = peak u).Nonempty := ⟨k, by simpa using hk⟩
  refine ⟨_, (Finset.mem_filter.mp (Finset.min'_mem _ hne)).2, fun l hl => Finset.min'_le _ _ (by simpa using hl)⟩

/-- The first index at which the largest number stands. -/
def first (u : Fin 32 → EReal) : Fin 32 := (exists_first u).choose

theorem first_eq (u : Fin 32 → EReal) : u (first u) = peak u := (exists_first u).choose_spec.1

theorem first_le (u : Fin 32 → EReal) (l : Fin 32) (h : u l = peak u) : first u ≤ l := (exists_first u).choose_spec.2 l h

/-- An index at which the largest number stands and that precedes every other such index is the first one. -/
theorem eq_first (u : Fin 32 → EReal) (k : Fin 32) (hk : u k = peak u) (h : ∀ l, u l = peak u → k ≤ l) : k = first u :=
  le_antisymm (h _ (first_eq u)) (first_le u k hk)

/-- The ratios of one anchor with the 32 boxes of an image. -/
def ratios (a : Anchor) (X : Fin 32 → Box) : Fin 32 → EReal := fun k => ratio a (X k)

/-- An anchor is positive when its best ratio is at least one half. -/
def Positive (a : Anchor) (X : Fin 32 → Box) : Prop := lit 0x3F000000#32 ≤ peak (ratios a X)

/-- An anchor is ignored when its best ratio is at least four tenths and it is not positive. -/
def Ignored (a : Anchor) (X : Fin 32 → Box) : Prop := lit 0x3ECCCCCD#32 ≤ peak (ratios a X) ∧ ¬ Positive a X

/-- The box that an anchor is assigned to. -/
def assigned (a : Anchor) (X : Fin 32 → Box) : Box := X (first (ratios a X))

/-- A box is of class `e` when its class column, rounded to an integer, is `e`. -/
def IsClass (x : Box) (e : Fin 80) : Prop := FloatOps.fptosi (F := Ideal) (φ := .f32) 32 (x 4) = BitVec.ofNat 32 e.val

open Classical in
/-- The target of one anchor and class: minus one where the anchor is ignored, one at the class of the assigned box of
a positive anchor, zero elsewhere. -/
def target (a : Anchor) (X : Fin 32 → Box) (e : Fin 80) : EReal :=
  if Ignored a X then lit 0xBF800000#32
  else if Positive a X then (if IsClass (assigned a X) e then 1 else 0) else 0

open Classical in
/-- The focal term at target `t` and probability `p`. -/
def focal (t p : EReal) : EReal :=
  if t ≠ lit 0xBF800000#32 then
    (if t = 1 then lit 0x3E800000#32 else lit 0x3F400000#32)
        * Ideal.pow (if t = 1 then 1 - p else p) (lit 0x40000000#32)
      * -(t * Ideal.log p + (1 - t) * Ideal.log (1 - p))
  else 0

/-- The focal terms of an image, summed. -/
def focalSum (p : Fin 20000 → Fin 80 → EReal) (A : Fin 20000 → Anchor) (X : Fin 32 → Box) : EReal :=
  ∑ a, ∑ e, focal (target (A a) X e) (p a e)

/-- The absolute value on the extended reals. -/
abbrev size (x : EReal) : EReal := FloatOps.absf (F := Ideal) (φ := .f32) x

open Classical in
/-- The smooth absolute error: a parabola near zero, the absolute error less a constant beyond. -/
def smooth (t r : EReal) : EReal :=
  if size (t - r) ≤ lit 0x3DE38E39#32 then lit 0x40900000#32 * size (t - r) * size (t - r)
  else size (t - r) - lit 0x3D638E39#32

/-- The shift of a box's centre from an anchor's along one axis, in units of the anchor's extent: `l`, `h` the anchor's
low and high edge and `l'`, `h'` the box's. -/
def shift (l h l' h' : EReal) : EReal :=
  Ideal.div (l' + lit 0x3F000000#32 * (h' - l') - (l + lit 0x3F000000#32 * (h - l))) (h - l)

/-- The logarithm of a box's extent over an anchor's along one axis, the box's extent raised to at least one. -/
def stretch (l h l' h' : EReal) : EReal := Ideal.log (Ideal.div (max 1 (h' - l')) (h - l))

/-- The four numbers that the regression of an anchor should give for a box. -/
def wanted (a : Anchor) (x : Box) : Fin 4 → EReal :=
  ![Ideal.div (shift (a 0) (a 2) (x 0) (x 2)) (lit 0x3DCCCCCD#32),
    Ideal.div (shift (a 1) (a 3) (x 1) (x 3)) (lit 0x3DCCCCCD#32),
    Ideal.div (stretch (a 0) (a 2) (x 0) (x 2)) (lit 0x3E4CCCCD#32),
    Ideal.div (stretch (a 1) (a 3) (x 1) (x 3)) (lit 0x3E4CCCCD#32)]

open Classical in
/-- The smooth errors of the positive anchors of an image, summed. -/
def smoothSum (r : Fin 20000 → Fin 4 → EReal) (A : Fin 20000 → Anchor) (X : Fin 32 → Box) : EReal :=
  ∑ a, ∑ k, if Positive (A a) X then smooth (wanted (A a) (assigned (A a) X) k) (r a k) else 0

open Classical in
/-- The number of positive anchors of an image. -/
def positives (A : Fin 20000 → Anchor) (X : Fin 32 → Box) : EReal := ∑ a, if Positive (A a) X then 1 else 0

/-- The mean over the images of the focal sum per positive anchor. -/
def focalMean (p : Fin 8 → Fin 20000 → Fin 80 → EReal) (A : Fin 20000 → Anchor) (X : Fin 8 → Fin 32 → Box) : EReal :=
  Ideal.div (∑ b, Ideal.div (focalSum (p b) A (X b)) (max (positives A (X b)) 1)) (lit 0x41000000#32)

/-- The mean over the images of the smooth sum per positive anchor and coordinate. -/
def smoothMean (r : Fin 8 → Fin 20000 → Fin 4 → EReal) (A : Fin 20000 → Anchor) (X : Fin 8 → Fin 32 → Box) : EReal :=
  Ideal.div (∑ b, Ideal.div (smoothSum (r b) A (X b)) (max (positives A (X b) * lit 0x40800000#32) 1)) (lit 0x41000000#32)

/-- The loss: the two means as a vector of two. -/
def loss (p : Fin 8 → Fin 20000 → Fin 80 → EReal) (r : Fin 8 → Fin 20000 → Fin 4 → EReal) (A : Fin 20000 → Anchor)
    (X : Fin 8 → Fin 32 → Box) : Fin 2 → EReal := ![focalMean p A X, smoothMean r A X]

end Cert.FocalLoss

end
-- ==== Proof.LossReal.lean ====
module

public import proofs.«01_k».proof.Proof.Loss

/-!
The focal sum at probabilities strictly between zero and one, written as a difference of two weighted sums over classes
and anchors of one real term.
-/

@[expose] public section

noncomputable section

namespace Cert.FocalLoss

open Idealize.ShloMosaic

theorem lit_quarter : lit 0x3E800000#32 = ((1 / 4 : ℝ) : EReal) := by
  simp [lit, Ideal.ofBits, Ideal.ieee, -EReal.coe_mul]; norm_num

theorem lit_three_quarters : lit 0x3F400000#32 = ((3 / 4 : ℝ) : EReal) := by
  simp [lit, Ideal.ofBits, Ideal.ieee, -EReal.coe_mul]; norm_num

theorem lit_half : lit 0x3F000000#32 = ((1 / 2 : ℝ) : EReal) := by
  simp [lit, Ideal.ofBits, Ideal.ieee, -EReal.coe_mul]; norm_num

theorem lit_two : lit 0x40000000#32 = ((2 : ℝ) : EReal) := by
  simp [lit, Ideal.ofBits, Ideal.ieee, -EReal.coe_mul]; norm_num

theorem lit_neg_one : lit 0xBF800000#32 = ((-1 : ℝ) : EReal) := by
  simp [lit, Ideal.ofBits, Ideal.ieee, -EReal.coe_mul]; norm_num

/-- The absolute value of a real. -/
theorem size_coe (x : ℝ) : size (x : EReal) = ((|x| : ℝ) : EReal) := by
  show FloatOps.absf (F := Ideal) (φ := .f32) (x : EReal) = _
  rw [Ideal.absf_def, ← EReal.coe_neg, abs]
  exact (EReal.coe_strictMono.monotone.map_max).symm

/-- The logarithm of a positive real. -/
theorem log_pos (x : ℝ) (h : 0 < x) : Ideal.log (x : EReal) = ((Real.log x : ℝ) : EReal) := by
  rw [Ideal.log_coe, if_neg (not_le.mpr h)]

/-- The error of a probability `q` at weight `w`, times the logarithm of what is left of one, times the error. -/
def tail (w q : ℝ) : ℝ := |w - q| * Real.log (1 - |w - q|) * |w - q|

/-- The same at extended reals. -/
def tail' (w p : EReal) : EReal := size (w - p) * Ideal.log (1 - size (w - p)) * size (w - p)

theorem tail_coe (w q : ℝ) (hw : w = 0 ∨ w = 1) (h0 : 0 < q) (h1 : q < 1) : tail' w q = (tail w q : EReal) := by
  unfold tail' tail
  have hpos : 0 < 1 - |w - q| := by
    rcases hw with rfl | rfl
    · rw [zero_sub, abs_neg, abs_of_pos h0]; linarith
    · rw [abs_of_pos (by linarith)]; linarith
  rw [← EReal.coe_sub, size_coe, ← EReal.coe_one, ← EReal.coe_sub, log_pos _ hpos, ← EReal.coe_mul, ← EReal.coe_mul]

open Classical in
/-- One where the anchor is positive, zero elsewhere. -/
def pos (a : Anchor) (X : Fin 32 → Box) : ℝ := if Positive a X then 1 else 0

open Classical in
/-- One where the anchor is positive and its box of the class, zero elsewhere. -/
def mark (a : Anchor) (X : Fin 32 → Box) (e : Fin 80) : ℝ := if IsClass (assigned a X) e then pos a X else 0

open Classical in
/-- Zero where the anchor is ignored, three quarters elsewhere. -/
def weight (a : Anchor) (X : Fin 32 → Box) : ℝ := if Ignored a X then 0 else 3 / 4

theorem mark_cases (a : Anchor) (X : Fin 32 → Box) (e : Fin 80) : mark a X e = 0 ∨ mark a X e = 1 := by
  unfold mark pos; split <;> [split <;> simp; simp]

/-- The focal term at a probability strictly between zero and one, by the anchor's weight and marks. -/
theorem focal_coe (a : Anchor) (X : Fin 32 → Box) (e : Fin 80) (q : ℝ) (h0 : 0 < q) (h1 : q < 1) :
    focal (target a X e) q
      = ((-(weight a X * tail (mark a X e) q - 1 / 2 * (pos a X * (mark a X e * tail (mark a X e) q))) : ℝ) : EReal) := by
  classical
  have hz : focal 0 q = ((-(3 / 4 * tail 0 q) : ℝ) : EReal) := by
    unfold focal
    rw [lit_neg_one, if_pos (by rw [← EReal.coe_zero]; exact fun h => by have := EReal.coe_injective h; norm_num at this), if_neg (by simp), if_neg (by simp),
      lit_three_quarters, lit_two, ← EReal.coe_zero, ← EReal.coe_one, ← EReal.coe_sub, ← EReal.coe_sub, log_pos _ h0,
      log_pos _ (by linarith), Ideal.pow_coe_coe]
    simp only [← EReal.coe_mul, ← EReal.coe_add, ← EReal.coe_neg]
    congr 1
    unfold tail
    rw [show Real.rpow q 2 = q ^ (2 : ℝ) from rfl, Real.rpow_two, zero_sub, abs_neg, abs_of_pos h0]
    ring
  have ho : focal 1 q = ((-(1 / 4 * tail 1 q) : ℝ) : EReal) := by
    unfold focal
    rw [lit_neg_one, if_pos (by rw [← EReal.coe_one]; exact fun h => by have := EReal.coe_injective h; norm_num at this), if_pos rfl, if_pos rfl,
      lit_quarter, lit_two, ← EReal.coe_one, ← EReal.coe_sub, ← EReal.coe_sub, log_pos _ h0,
      log_pos _ (by linarith), Ideal.pow_coe_coe]
    simp only [← EReal.coe_mul, ← EReal.coe_add, ← EReal.coe_neg]
    congr 1
    unfold tail
    rw [show Real.rpow (1 - q) 2 = (1 - q) ^ (2 : ℝ) from rfl, Real.rpow_two, abs_of_pos (show (0:ℝ) < 1 - q by linarith),
      show (1 : ℝ) - (1 - q) = q by ring]
    ring
  unfold target weight mark pos
  by_cases hi : Ignored a X
  · rw [if_pos hi, if_pos hi, if_neg hi.2]
    unfold focal
    rw [if_neg (by simp)]
    simp
  · rw [if_neg hi, if_neg hi]
    by_cases hp : Positive a X
    · simp only [if_pos hp]
      by_cases hc : IsClass (assigned a X) e
      · simp only [if_pos hc]
        rw [ho]; congr 1; ring
      · simp only [if_neg hc]
        rw [hz]; congr 1; ring
    · simp only [if_neg hp, ite_self]
      rw [hz]; congr 1; ring

/-- A sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert k s hk ih => rw [Finset.sum_insert hk, Finset.sum_insert hk, EReal.coe_add, ih]

/-- A sum over rows and columns of a difference of two terms, negated, against the two sums over columns and rows. -/
theorem sum_swap {ι κ : Type} [Fintype ι] [Fintype κ] (f g : ι → κ → ℝ) (c : ℝ) :
    (0 : EReal) - ((∑ e : κ, ∑ a : ι, (f a e : EReal)) - (c : EReal) * ∑ e : κ, ∑ a : ι, (g a e : EReal))
      = ∑ a : ι, ∑ e : κ, ((-(f a e - c * g a e) : ℝ) : EReal) := by
  simp only [← coe_sum, ← EReal.coe_mul, ← EReal.coe_sub, ← EReal.coe_zero]
  congr 1
  rw [Finset.sum_comm, Finset.sum_comm (f := fun e a => g a e), zero_sub, Finset.mul_sum, ← Finset.sum_sub_distrib,
    ← Finset.sum_neg_distrib]
  refine Finset.sum_congr rfl fun a _ => ?_
  rw [Finset.mul_sum, ← Finset.sum_sub_distrib, ← Finset.sum_neg_distrib]

/-- The focal sum at probabilities strictly between zero and one. -/
theorem focalSum_eq (p : Fin 20000 → Fin 80 → EReal) (q : Fin 20000 → Fin 80 → ℝ) (hpq : ∀ a e, p a e = q a e)
    (h0 : ∀ a e, 0 < q a e) (h1 : ∀ a e, q a e < 1) (A : Fin 20000 → Anchor) (X : Fin 32 → Box) :
    0 - ((∑ e : Fin 80, ∑ a, ((weight (A a) X : ℝ) : EReal) * tail' (mark (A a) X e : ℝ) (p a e))
        - lit 0x3F000000#32 * ∑ e : Fin 80, ∑ a, ((pos (A a) X : ℝ) : EReal) *
            (((mark (A a) X e : ℝ) : EReal) * tail' (mark (A a) X e : ℝ) (p a e)))
      = focalSum p A X := by
  have hf : ∀ a e, focal (target (A a) X e) (p a e) = _ := fun a e =>
    (congrArg _ (hpq a e)).trans (focal_coe (A a) X e (q a e) (h0 a e) (h1 a e))
  have ht : ∀ a e, tail' (mark (A a) X e : ℝ) (p a e) = _ := fun a e =>
    (congrArg _ (hpq a e)).trans (tail_coe _ (q a e) (mark_cases (A a) X e) (h0 a e) (h1 a e))
  have hs := sum_swap (fun a e => weight (A a) X * tail (mark (A a) X e) (q a e))
    (fun a e => pos (A a) X * (mark (A a) X e * tail (mark (A a) X e) (q a e))) (1 / 2)
  refine Eq.trans ?_ (hs.trans ?_)
  · rw [lit_half]
    refine congrArg (fun z => (0 : EReal) - z) (congrArg₂ (fun y z => y - ((1 / 2 : ℝ) : EReal) * z) ?_ ?_)
    · exact Finset.sum_congr rfl fun e _ => Finset.sum_congr rfl fun a _ => by rw [ht, EReal.coe_mul]
    · exact Finset.sum_congr rfl fun e _ => Finset.sum_congr rfl fun a _ => by rw [ht, EReal.coe_mul, EReal.coe_mul]
  · exact Finset.sum_congr rfl fun a _ => Finset.sum_congr rfl fun e _ => (hf a e).symm

end Cert.FocalLoss

end
-- ==== Proof.RefOps.lean ====
module

public import proofs.«01_k».proof.Proof.Gen.ReferenceIdeal
public import Idealize.ShloMosaic.Lib.StableHlo.Run
public import Idealize.ShloMosaic.Lib.Pipeline.Frame

/-!
The reference program as lists of its operations, cut where a quantity of the loss is complete, and its run: every
execution ends with each buffer at what the lists compute, in order, from the launch contents.
-/

@[expose] public section

noncomputable section

namespace Cert.ReferenceIdeal.Focal

open Cert.ReferenceIdeal Cert.ReferenceIdeal.Gen Idealize.ShloMosaic Idealize.ShloMosaic.TcCoe Idealize.SL.Sem Idealize.ShloMosaic.StableHlo

variable {F : FTy → Type} [FloatOps F]

/-- Four columns side by side. -/
def joinColumns : (main_v206 : Ref sig .tc).ty.Contents (Elt F) → (main_v207 : Ref sig .tc).ty.Contents (Elt F) → (main_v208 : Ref sig .tc).ty.Contents (Elt F) → (main_v209 : Ref sig .tc).ty.Contents (Elt F) → (main_v210 : Ref sig .tc).ty.Contents (Elt F) :=
  (fun u0 u1 u2 u3 => (concatenate S8x20000x4 2 [⟨S8x20000x1, (u0 : (⟨S8x20000x1, .f32⟩ : BufTy).Contents (Elt F))⟩, ⟨S8x20000x1, (u1 : (⟨S8x20000x1, .f32⟩ : BufTy).Contents (Elt F))⟩, ⟨S8x20000x1, (u2 : (⟨S8x20000x1, .f32⟩ : BufTy).Contents (Elt F))⟩, ⟨S8x20000x1, (u3 : (⟨S8x20000x1, .f32⟩ : BufTy).Contents (Elt F))⟩] concatenates_S8x20000x1_S8x20000x1_S8x20000x1_S8x20000x1_S8x20000x4_d2 : (⟨S8x20000x4, .f32⟩ : BufTy).Contents (Elt F)))

/-- Two numbers as a vector of two. -/
def joinPair : (⟨S1, .f32⟩ : BufTy).Contents (Elt F) → (⟨S1, .f32⟩ : BufTy).Contents (Elt F) → (⟨S2, .f32⟩ : BufTy).Contents (Elt F) :=
  (fun a b => concatenate S2 0 [⟨S1, a⟩, ⟨S1, b⟩] concatenates_S1_S1_S2_d0)

/-- The operations that compute the clipped probabilities, the anchors as rows and the annotated boxes' areas. -/
abbrev opsArea : List (HloOp τ sig (Elt F)) :=
  [ reshape main_arg3 main_v0 (rfl : (.f32 : EltTy) = .f32) shapeCasts_S1x20000x4_S20000x4,
    nullary main_cst (constant S_ .f32 0x38D1B717#32),
    nullary main_cst_0 (constant S_ .f32 0x3F7FF972#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S8x20000x80, .f32⟩) main_call0_v1) (broadcastInDim S8x20000x80 ![] bcast_S_S8x20000x80),
    TRef.binary (TRef.of (T := ⟨S8x20000x80, .f32⟩) main_call0_v1) (TRef.of (T := ⟨S8x20000x80, .f32⟩) main_arg0) (TRef.of (T := ⟨S8x20000x80, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S8x20000x80, .f32⟩) main_call0_v4) (broadcastInDim S8x20000x80 ![] bcast_S_S8x20000x80),
    TRef.binary (TRef.of (T := ⟨S8x20000x80, .f32⟩) main_call0_v4) (TRef.of (T := ⟨S8x20000x80, .f32⟩) main_call0_v2) (TRef.of (T := ⟨S8x20000x80, .f32⟩) main_v1) minimumf,
    unary main_arg4 main_v2 ((extractStridedSlice S8x32x4 ![0, 0, 0] · slices_S8x32x11_S8x32x4_0_0_0) : (⟨S8x32x11, .f32⟩ : BufTy).Contents (Elt F) → (⟨S8x32x4, .f32⟩ : BufTy).Contents (Elt F)),
    unary main_v2 main_v3 ((extractStridedSlice S8x32x1 ![0, 0, 2] · slices_S8x32x4_S8x32x1_0_0_2) : (⟨S8x32x4, .f32⟩ : BufTy).Contents (Elt F) → (⟨S8x32x1, .f32⟩ : BufTy).Contents (Elt F)),
    reshape main_v3 main_v4 (rfl : (.f32 : EltTy) = .f32) shapeCasts_S8x32x1_S8x32,
    unary main_v2 main_v5 ((extractStridedSlice S8x32x1 ![0, 0, 0] · slices_S8x32x4_S8x32x1_0_0_0) : (⟨S8x32x4, .f32⟩ : BufTy).Contents (Elt F) → (⟨S8x32x1, .f32⟩ : BufTy).Contents (Elt F)),
    reshape main_v5 main_v6 (rfl : (.f32 : EltTy) = .f32) shapeCasts_S8x32x1_S8x32,
    binary main_v4 main_v6 main_v7 (subf : (⟨S8x32, .f32⟩ : BufTy).Contents (Elt F) → (⟨S8x32, .f32⟩ : BufTy).Contents (Elt F) → (⟨S8x32, .f32⟩ : BufTy).Contents (Elt F)),
    unary main_v2 main_v8 ((extractStridedSlice S8x32x1 ![0, 0, 3] · slices_S8x32x4_S8x32x1_0_0_3) : (⟨S8x32x4, .f32⟩ : BufTy).Contents (Elt F) → (⟨S8x32x1, .f32⟩ : BufTy).Contents (Elt F)),
    reshape main_v8 main_v9 (rfl : (.f32 : EltTy) = .f32) shapeCasts_S8x32x1_S8x32,
    unary main_v2 main_v10 ((extractStridedSlice S8x32x1 ![0, 0, 1] · slices_S8x32x4_S8x32x1_0_0_1) : (⟨S8x32x4, .f32⟩ : BufTy).Contents (Elt F) → (⟨S8x32x1, .f32⟩ : BufTy).Contents (Elt F)),
    reshape main_v10 main_v11 (rfl : (.f32 : EltTy) = .f32) shapeCasts_S8x32x1_S8x32,
    binary main_v9 main_v11 main_v12 (subf : (⟨S8x32, .f32⟩ : BufTy).Contents (Elt F) → (⟨S8x32, .f32⟩ : BufTy).Contents (Elt F) → (⟨S8x32, .f32⟩ : BufTy).Contents (Elt F)),
    binary main_v7 main_v12 main_v13 (mulf : (⟨S8x32, .f32⟩ : BufTy).Contents (Elt F) → (⟨S8x32, .f32⟩ : BufTy).Contents (Elt F) → (⟨S8x32, .f32⟩ : BufTy).Contents (Elt F)) ]

/-- The operations that compute the width of each intersection before it is cut at zero. -/
abbrev opsWidth : List (HloOp τ sig (Elt F)) :=
  [ unary main_v0 main_v14 ((extractStridedSlice S20000x1 ![0, 2] · slices_S20000x4_S20000x1_0_2) : (⟨S20000x4, .f32⟩ : BufTy).Contents (Elt F) → (⟨S20000x1, .f32⟩ : BufTy).Contents (Elt F)),
    reshape main_v14 main_v15 (rfl : (.f32 : EltTy) = .f32) shapeCasts_S20000x1_S20000,
    unary main_v15 main_v16 (broadcastInDim S20000x1 ![0] bcast_S20000_S20000x1_0 : (⟨S20000, .f32⟩ : BufTy).Contents (Elt F) → (⟨S20000x1, .f32⟩ : BufTy).Contents (Elt F)),
    unary main_v2 main_v17 ((extractStridedSlice S8x32x1 ![0, 0, 2] · slices_S8x32x4_S8x32x1_0_0_2) : (⟨S8x32x4, .f32⟩ : BufTy).Contents (Elt F) → (⟨S8x32x1, .f32⟩ : BufTy).Contents (Elt F)),
    reshape main_v17 main_v18 (rfl : (.f32 : EltTy) = .f32) shapeCasts_S8x32x1_S8x32,
    unary main_v18 main_v19 (broadcastInDim S8x1x32 ![0, 2] bcast_S8x32_S8x1x32_0_2 : (⟨S8x32, .f32⟩ : BufTy).Contents (Elt F) → (⟨S8x1x32, .f32⟩ : BufTy).Contents (Elt F)),
    unary main_v16 main_v20 (broadcastInDim S1x20000x1 ![1, 2] bcast_S20000x1_S1x20000x1_1_2 : (⟨S20000x1, .f32⟩ : BufTy).Contents (Elt F) → (⟨S1x20000x1, .f32⟩ : BufTy).Contents (Elt F)),
    unary main_v20 main_v21 (broadcastInDim S8x20000x32 ![0, 1, 2] bcast_S1x20000x1_S8x20000x32_0_1_2 : (⟨S1x20000x1, .f32⟩ : BufTy).Contents (Elt F) → (⟨S8x20000x32, .f32⟩ : BufTy).Contents (Elt F)),
    unary main_v19 main_v22 (broadcastInDim S8x20000x32 ![0, 1, 2] bcast_S8x1x32_S8x20000x32_0_1_2 : (⟨S8x1x32, .f32⟩ : BufTy).Contents (Elt F) → (⟨S8x20000x32, .f32⟩ : BufTy).Contents (Elt F)),
    binary main_v21 main_v22 main_v23 (minimumf : (⟨S8x20000x32, .f32⟩ : BufTy).Contents (Elt F) → (⟨S8x20000x32, .f32⟩ : BufTy).Contents (Elt F) → (⟨S8x20000x32, .f32⟩ : BufTy).Contents (Elt F)),
    unary main_v0 main_v24 ((extractStridedSlice S20000x1 ![0, 0] · slices_S20000x4_S20000x1_0_0) : (⟨S20000x4, .f32⟩ : BufTy).Contents (Elt F) → (⟨S20000x1, .f32⟩ : BufTy).Contents (Elt F)),
    reshape main_v24 main_v25 (rfl : (.f32 : EltTy) = .f32) shapeCasts_S20000x1_S20000,
    unary main_v25 main_v26 (broadcastInDim S20000x1 ![0] bcast_S20000_S20000x1_0 : (⟨S20000, .f32⟩ : BufTy).Contents (Elt F) → (⟨S20000x1, .f32⟩ : BufTy).Contents (Elt F)),
    unary main_v2 main_v27 ((extractStridedSlice S8x32x1 ![0, 0, 0] · slices_S8x32x4_S8x32x1_0_0_0) : (⟨S8x32x4, .f32⟩ : BufTy).Contents (Elt F) → (⟨S8x32x1, .f32⟩ : BufTy).Contents (Elt F)),
    reshape main_v27 main_v28 (rfl : (.f32 : EltTy) = .f32) shapeCasts_S8x32x1_S8x32,
    unary main_v28 main_v29 (broadcastInDim S8x1x32 ![0, 2] bcast_S8x32_S8x1x32_0_2 : (⟨S8x32, .f32⟩ : BufTy).Contents (Elt F) → (⟨S8x1x32, .f32⟩ : BufTy).Contents (Elt F)),
    unary main_v26 main_v30 (broadcastInDim S1x20000x1 ![1, 2] bcast_S20000x1_S1x20000x1_1_2 : (⟨S20000x1, .f32⟩ : BufTy).Contents (Elt F) → (⟨S1x20000x1, .f32⟩ : BufTy).Contents (Elt F)),
    unary main_v30 main_v31 (broadcastInDim S8x20000x32 ![0, 1, 2] bcast_S1x20000x1_S8x20000x32_0_1_2 : (⟨S1x20000x1, .f32⟩ : BufTy).Contents (Elt F) → (⟨S8x20000x32, .f32⟩ : BufTy).Contents (Elt F)),
    unary main_v29 main_v32 (broadcastInDim S8x20000x32 ![0, 1, 2] bcast_S8x1x32_S8x20000x32_0_1_2 : (⟨S8x1x32, .f32⟩ : BufTy).Contents (Elt F) → (⟨S8x20000x32, .f32⟩ : BufTy).Contents (Elt F)),
    binary main_v31 main_v32 main_v33 (maximumf : (⟨S8x20000x32, .f32⟩ : BufTy).Contents (Elt F) → (⟨S8x20000x32, .f32⟩ : BufTy).Contents (Elt F) → (⟨S8x20000x32, .f32⟩ : BufTy).Contents (Elt F)),
    binary main_v23 main_v33 main_v34 (subf : (⟨S8x20000x32, .f32⟩ : BufTy).Contents (Elt F) → (⟨S8x20000x32, .f32⟩ : BufTy).Contents (Elt F) → (⟨S8x20000x32, .f32⟩ : BufTy).Contents (Elt F)) ]

/-- The operations that compute the height of each intersection, and its width cut at zero. -/
abbrev opsHeight : List (HloOp τ sig (Elt F)) :=
  [ unary main_v0 main_v35 ((extractStridedSlice S20000x1 ![0, 3] · slices_S20000x4_S20000x1_0_3) : (⟨S20000x4, .f32⟩ : BufTy).Contents (Elt F) → (⟨S20000x1, .f32⟩ : BufTy).Contents (Elt F)),
    reshape main_v35 main_v36 (rfl : (.f32 : EltTy) = .f32) shapeCasts_S20000x1_S20000,
    unary main_v36 main_v37 (broadcastInDim S20000x1 ![0] bcast_S20000_S20000x1_0 : (⟨S20000, .f32⟩ : BufTy).Contents (Elt F) → (⟨S20000x1, .f32⟩ : BufTy).Contents (Elt F)),
    unary main_v2 main_v38 ((extractStridedSlice S8x32x1 ![0, 0, 3] · slices_S8x32x4_S8x32x1_0_0_3) : (⟨S8x32x4, .f32⟩ : BufTy).Contents (Elt F) → (⟨S8x32x1, .f32⟩ : BufTy).Contents (Elt F)),
    reshape main_v38 main_v39 (rfl : (.f32 : EltTy) = .f32) shapeCasts_S8x32x1_S8x32,
    unary main_v39 main_v40 (broadcastInDim S8x1x32 ![0, 2] bcast_S8x32_S8x1x32_0_2 : (⟨S8x32, .f32⟩ : BufTy).Contents (Elt F) → (⟨S8x1x32, .f32⟩ : BufTy).Contents (Elt F)),
    unary main_v37 main_v41 (broadcastInDim S1x20000x1 ![1, 2] bcast_S20000x1_S1x20000x1_1_2 : (⟨S20000x1, .f32⟩ : BufTy).Contents (Elt F) → (⟨S1x20000x1, .f32⟩ : BufTy).Contents (Elt F)),
    unary main_v41 main_v42 (broadcastInDim S8x20000x32 ![0, 1, 2] bcast_S1x20000x1_S8x20000x32_0_1_2 : (⟨S1x20000x1, .f32⟩ : BufTy).Contents (Elt F) → (⟨S8x20000x32, .f32⟩ : BufTy).Contents (Elt F)),
    unary main_v40 main_v43 (broadcastInDim S8x20000x32 ![0, 1, 2] bcast_S8x1x32_S8x20000x32_0_1_2 : (⟨S8x1x32, .f32⟩ : BufTy).Contents (Elt F) → (⟨S8x20000x32, .f32⟩ : BufTy).Contents (Elt F)),
    binary main_v42 main_v43 main_v44 (minimumf : (⟨S8x20000x32, .f32⟩ : BufTy).Contents (Elt F) → (⟨S8x20000x32, .f32⟩ : BufTy).Contents (Elt F) → (⟨S8x20000x32, .f32⟩ : BufTy).Contents (Elt F)),
    unary main_v0 main_v45 ((extractStridedSlice S20000x1 ![0, 1] · slices_S20000x4_S20000x1_0_1) : (⟨S20000x4, .f32⟩ : BufTy).Contents (Elt F) → (⟨S20000x1, .f32⟩ : BufTy).Contents (Elt F)),
    reshape main_v45 main_v46 (rfl : (.f32 : EltTy) = .f32) shapeCasts_S20000x1_S20000,
    unary main_v46 main_v47 (broadcastInDim S20000x1 ![0] bcast_S20000_S20000x1_0 : (⟨S20000, .f32⟩ : BufTy).Contents (Elt F) → (⟨S20000x1, .f32⟩ : BufTy).Contents (Elt F)),
    unary main_v2 main_v48 ((extractStridedSlice S8x32x1 ![0, 0, 1] · slices_S8x32x4_S8x32x1_0_0_1) : (⟨S8x32x4, .f32⟩ : BufTy).Contents (Elt F) → (⟨S8x32x1, .f32⟩ : BufTy).Contents (Elt F)),
    reshape main_v48 main_v49 (rfl : (.f32 : EltTy) = .f32) shapeCasts_S8x32x1_S8x32,
    unary main_v49 main_v50 (broadcastInDim S8x1x32 ![0, 2] bcast_S8x32_S8x1x32_0_2 : (⟨S8x32, .f32⟩ : BufTy).Contents (Elt F) → (⟨S8x1x32, .f32⟩ : BufTy).Contents (Elt F)),
    unary main_v47 main_v51 (broadcastInDim S1x20000x1 ![1, 2] bcast_S20000x1_S1x20000x1_1_2 : (⟨S20000x1, .f32⟩ : BufTy).Contents (Elt F) → (⟨S1x20000x1, .f32⟩ : BufTy).Contents (Elt F)),
    unary main_v51 main_v52 (broadcastInDim S8x20000x32 ![0, 1, 2] bcast_S1x20000x1_S8x20000x32_0_1_2 : (⟨S1x20000x1, .f32⟩ : BufTy).Contents (Elt F) → (⟨S8x20000x32, .f32⟩ : BufTy).Contents (Elt F)),
    unary main_v50 main_v53 (broadcastInDim S8x20000x32 ![0, 1, 2] bcast_S8x1x32_S8x20000x32_0_1_2 : (⟨S8x1x32, .f32⟩ : BufTy).Contents (Elt F) → (⟨S8x20000x32, .f32⟩ : BufTy).Contents (Elt F)),
    binary main_v52 main_v53 main_v54 (maximumf : (⟨S8x20000x32, .f32⟩ : BufTy).Contents (Elt F) → (⟨S8x20000x32, .f32⟩ : BufTy).Contents (Elt F) → (⟨S8x20000x32, .f32⟩ : BufTy).Contents (Elt F)),
    binary main_v44 main_v54 main_v55 (subf : (⟨S8x20000x32, .f32⟩ : BufTy).Contents (Elt F) → (⟨S8x20000x32, .f32⟩ : BufTy).Contents (Elt F) → (⟨S8x20000x32, .f32⟩ : BufTy).Contents (Elt F)),
    nullary main_cst_1 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8x20000x32, .f32⟩) main_call1_v1) (broadcastInDim S8x20000x32 ![] bcast_S_S8x20000x32),
    TRef.binary (TRef.of (T := ⟨S8x20000x32, .f32⟩) main_call1_v1) (TRef.of (T := ⟨S8x20000x32, .f32⟩) main_v34) (TRef.of (T := ⟨S8x20000x32, .f32⟩) main_v56) maximumf ]

/-- The operations that compute the overlap ratio of every anchor with every box. -/
abbrev opsIou : List (HloOp τ sig (Elt F)) :=
  [ nullary main_cst_2 (constant S_ .f32 0x00000000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S8x20000x32, .f32⟩) main_call2_v1) (broadcastInDim S8x20000x32 ![] bcast_S_S8x20000x32),
    TRef.binary (TRef.of (T := ⟨S8x20000x32, .f32⟩) main_call2_v1) (TRef.of (T := ⟨S8x20000x32, .f32⟩) main_v55) (TRef.of (T := ⟨S8x20000x32, .f32⟩) main_v57) maximumf,
    unary main_v0 main_v58 ((extractStridedSlice S20000x1 ![0, 2] · slices_S20000x4_S20000x1_0_2) : (⟨S20000x4, .f32⟩ : BufTy).Contents (Elt F) → (⟨S20000x1, .f32⟩ : BufTy).Contents (Elt F)),
    reshape main_v58 main_v59 (rfl : (.f32 : EltTy) = .f32) shapeCasts_S20000x1_S20000,
    unary main_v0 main_v60 ((extractStridedSlice S20000x1 ![0, 0] · slices_S20000x4_S20000x1_0_0) : (⟨S20000x4, .f32⟩ : BufTy).Contents (Elt F) → (⟨S20000x1, .f32⟩ : BufTy).Contents (Elt F)),
    reshape main_v60 main_v61 (rfl : (.f32 : EltTy) = .f32) shapeCasts_S20000x1_S20000,
    binary main_v59 main_v61 main_v62 (subf : (⟨S20000, .f32⟩ : BufTy).Contents (Elt F) → (⟨S20000, .f32⟩ : BufTy).Contents (Elt F) → (⟨S20000, .f32⟩ : BufTy).Contents (Elt F)),
    unary main_v0 main_v63 ((extractStridedSlice S20000x1 ![0, 3] · slices_S20000x4_S20000x1_0_3) : (⟨S20000x4, .f32⟩ : BufTy).Contents (Elt F) → (⟨S20000x1, .f32⟩ : BufTy).Contents (Elt F)),
    reshape main_v63 main_v64 (rfl : (.f32 : EltTy) = .f32) shapeCasts_S20000x1_S20000,
    unary main_v0 main_v65 ((extractStridedSlice S20000x1 ![0, 1] · slices_S20000x4_S20000x1_0_1) : (⟨S20000x4, .f32⟩ : BufTy).Contents (Elt F) → (⟨S20000x1, .f32⟩ : BufTy).Contents (Elt F)),
    reshape main_v65 main_v66 (rfl : (.f32 : EltTy) = .f32) shapeCasts_S20000x1_S20000,
    binary main_v64 main_v66 main_v67 (subf : (⟨S20000, .f32⟩ : BufTy).Contents (Elt F) → (⟨S20000, .f32⟩ : BufTy).Contents (Elt F) → (⟨S20000, .f32⟩ : BufTy).Contents (Elt F)),
    binary main_v62 main_v67 main_v68 (mulf : (⟨S20000, .f32⟩ : BufTy).Contents (Elt F) → (⟨S20000, .f32⟩ : BufTy).Contents (Elt F) → (⟨S20000, .f32⟩ : BufTy).Contents (Elt F)),
    unary main_v68 main_v69 (broadcastInDim S20000x1 ![0] bcast_S20000_S20000x1_0 : (⟨S20000, .f32⟩ : BufTy).Contents (Elt F) → (⟨S20000x1, .f32⟩ : BufTy).Contents (Elt F)),
    unary main_v13 main_v70 (broadcastInDim S8x1x32 ![0, 2] bcast_S8x32_S8x1x32_0_2 : (⟨S8x32, .f32⟩ : BufTy).Contents (Elt F) → (⟨S8x1x32, .f32⟩ : BufTy).Contents (Elt F)),
    unary main_v69 main_v71 (broadcastInDim S1x20000x1 ![1, 2] bcast_S20000x1_S1x20000x1_1_2 : (⟨S20000x1, .f32⟩ : BufTy).Contents (Elt F) → (⟨S1x20000x1, .f32⟩ : BufTy).Contents (Elt F)),
    unary main_v71 main_v72 (broadcastInDim S8x20000x32 ![0, 1, 2] bcast_S1x20000x1_S8x20000x32_0_1_2 : (⟨S1x20000x1, .f32⟩ : BufTy).Contents (Elt F) → (⟨S8x20000x32, .f32⟩ : BufTy).Contents (Elt F)),
    unary main_v70 main_v73 (broadcastInDim S8x20000x32 ![0, 1, 2] bcast_S8x1x32_S8x20000x32_0_1_2 : (⟨S8x1x32, .f32⟩ : BufTy).Contents (Elt F) → (⟨S8x20000x32, .f32⟩ : BufTy).Contents (Elt F)),
    binary main_v72 main_v73 main_v74 (addf : (⟨S8x20000x32, .f32⟩ : BufTy).Contents (Elt F) → (⟨S8x20000x32, .f32⟩ : BufTy).Contents (Elt F) → (⟨S8x20000x32, .f32⟩ : BufTy).Contents (Elt F)),
    binary main_v56 main_v57 main_v75 (mulf : (⟨S8x20000x32, .f32⟩ : BufTy).Contents (Elt F) → (⟨S8x20000x32, .f32⟩ : BufTy).Contents (Elt F) → (⟨S8x20000x32, .f32⟩ : BufTy).Contents (Elt F)),
    binary main_v74 main_v75 main_v76 (subf : (⟨S8x20000x32, .f32⟩ : BufTy).Contents (Elt F) → (⟨S8x20000x32, .f32⟩ : BufTy).Contents (Elt F) → (⟨S8x20000x32, .f32⟩ : BufTy).Contents (Elt F)),
    nullary main_cst_3 (constant S_ .f32 0x322BCC77#32),
    TRef.unary (TRef.of (T := ⟨S_, .f32⟩) main_cst_3) (TRef.of (T := ⟨S_, .f32⟩) main_call3_v0) id,
    TRef.unary (TRef.of (T := ⟨S_, .f32⟩) main_call3_v0) (TRef.of (T := ⟨S8x20000x32, .f32⟩) main_call3_v1) (broadcastInDim S8x20000x32 ![] bcast_S_S8x20000x32),
    TRef.binary (TRef.of (T := ⟨S8x20000x32, .f32⟩) main_call3_v1) (TRef.of (T := ⟨S8x20000x32, .f32⟩) main_v76) (TRef.of (T := ⟨S8x20000x32, .f32⟩) main_v77) maximumf,
    binary main_v56 main_v57 main_v78 (mulf : (⟨S8x20000x32, .f32⟩ : BufTy).Contents (Elt F) → (⟨S8x20000x32, .f32⟩ : BufTy).Contents (Elt F) → (⟨S8x20000x32, .f32⟩ : BufTy).Contents (Elt F)),
    binary main_v78 main_v77 main_v79 (Host.divf : (⟨S8x20000x32, .f32⟩ : BufTy).Contents (Elt F) → (⟨S8x20000x32, .f32⟩ : BufTy).Contents (Elt F) → (⟨S8x20000x32, .f32⟩ : BufTy).Contents (Elt F)) ]

/-- The operations that compute the best ratio of each anchor and the first box that reaches it. -/
abbrev opsArg : List (HloOp τ sig (Elt F)) :=
  [ nullary main_cst_4 (constant S_ .f32 0xFF800000#32),
    binary main_v79 main_cst_4 main_v80 ((fun x v => Host.reduce FloatOps.maximumf x v reducesTo_S8x20000x32_S8x20000_d2 h_S_) : (⟨S8x20000x32, .f32⟩ : BufTy).Contents (Elt F) → (⟨S_, .f32⟩ : BufTy).Contents (Elt F) → (⟨S8x20000, .f32⟩ : BufTy).Contents (Elt F)),
    TRef.nullary (TRef.of (T := ⟨S8x20000x32, .i32⟩) main_call4_v0) (iotaInDim S8x20000x32 32 2),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S8x20000x32, .f32⟩) main_v79) (TRef.of (T := ⟨S8x20000x32, .i32⟩) main_call4_v0) (TRef.of (T := ⟨S_, .f32⟩) main_call4_cst) (TRef.of (T := ⟨S_, .i32⟩) main_call4_c) (TRef.of (T := ⟨S8x20000, .f32⟩) main_call4_v1_0) (fun x y u v => (fun j => (Host.argReduce reducer_argmax_f32_i32 x y u v reducesTo_S8x20000x32_S8x20000_d2 h_S_ j).1)),
    TRef.quaternary (TRef.of (T := ⟨S8x20000x32, .f32⟩) main_v79) (TRef.of (T := ⟨S8x20000x32, .i32⟩) main_call4_v0) (TRef.of (T := ⟨S_, .f32⟩) main_call4_cst) (TRef.of (T := ⟨S_, .i32⟩) main_call4_c) (TRef.of (T := ⟨S8x20000, .i32⟩) main_v81) (fun x y u v => (fun j => (Host.argReduce reducer_argmax_f32_i32 x y u v reducesTo_S8x20000x32_S8x20000_d2 h_S_ j).2)) ]

/-- The operations that compute the annotation assigned to each anchor. -/
abbrev opsGather : List (HloOp τ sig (Elt F)) :=
  [ nullary main_c (constantI S_ 32 0#32),
    unary main_c main_v82 (broadcastInDim S8x20000 ![] bcast_S_S8x20000 : (⟨S_, .i32⟩ : BufTy).Contents (Elt F) → (⟨S8x20000, .i32⟩ : BufTy).Contents (Elt F)),
    binary main_v81 main_v82 main_v83 (cmpi .slt : (⟨S8x20000, .i32⟩ : BufTy).Contents (Elt F) → (⟨S8x20000, .i32⟩ : BufTy).Contents (Elt F) → (⟨S8x20000, .i1⟩ : BufTy).Contents (Elt F)),
    nullary main_c_5 (constantI S_ 32 32#32),
    unary main_c_5 main_v84 (broadcastInDim S8x20000 ![] bcast_S_S8x20000 : (⟨S_, .i32⟩ : BufTy).Contents (Elt F) → (⟨S8x20000, .i32⟩ : BufTy).Contents (Elt F)),
    binary main_v81 main_v84 main_v85 (addi : (⟨S8x20000, .i32⟩ : BufTy).Contents (Elt F) → (⟨S8x20000, .i32⟩ : BufTy).Contents (Elt F) → (⟨S8x20000, .i32⟩ : BufTy).Contents (Elt F)),
    ternary main_v83 main_v85 main_v81 main_v86 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F)),
    unary main_v86 main_v87 (broadcastInDim S8x20000x1 ![0, 1] bcast_S8x20000_S8x20000x1_0_1 : (⟨S8x20000, .i32⟩ : BufTy).Contents (Elt F) → (⟨S8x20000x1, .i32⟩ : BufTy).Contents (Elt F)),
    binary main_arg4 main_v87 main_v88 ((fun x i => Host.gather gather_S8x32x11_S8x20000x1_S8x20000x11_2_1_0_0_1_2_1111 x i) : (⟨S8x32x11, .f32⟩ : BufTy).Contents (Elt F) → (⟨S8x20000x1, .i32⟩ : BufTy).Contents (Elt F) → (⟨S8x20000x11, .f32⟩ : BufTy).Contents (Elt F)) ]

/-- The operations that compute positive and ignored anchors, and the number of positives of each image. -/
abbrev opsSort : List (HloOp τ sig (Elt F)) :=
  [ nullary main_cst_6 (constant S_ .f32 0x3F000000#32),
    unary main_cst_6 main_v89 (broadcastInDim S8x20000 ![] bcast_S_S8x20000 : (⟨S_, .f32⟩ : BufTy).Contents (Elt F) → (⟨S8x20000, .f32⟩ : BufTy).Contents (Elt F)),
    binary main_v80 main_v89 main_v90 (cmpf .oge : (⟨S8x20000, .f32⟩ : BufTy).Contents (Elt F) → (⟨S8x20000, .f32⟩ : BufTy).Contents (Elt F) → (⟨S8x20000, .i1⟩ : BufTy).Contents (Elt F)),
    nullary main_cst_7 (constant S_ .f32 0x3ECCCCCD#32),
    unary main_cst_7 main_v91 (broadcastInDim S8x20000 ![] bcast_S_S8x20000 : (⟨S_, .f32⟩ : BufTy).Contents (Elt F) → (⟨S8x20000, .f32⟩ : BufTy).Contents (Elt F)),
    binary main_v80 main_v91 main_v92 (cmpf .oge : (⟨S8x20000, .f32⟩ : BufTy).Contents (Elt F) → (⟨S8x20000, .f32⟩ : BufTy).Contents (Elt F) → (⟨S8x20000, .i1⟩ : BufTy).Contents (Elt F)),
    unary main_v90 main_v93 (noti : (⟨S8x20000, .i1⟩ : BufTy).Contents (Elt F) → (⟨S8x20000, .i1⟩ : BufTy).Contents (Elt F)),
    binary main_v92 main_v93 main_v94 (andi : (⟨S8x20000, .i1⟩ : BufTy).Contents (Elt F) → (⟨S8x20000, .i1⟩ : BufTy).Contents (Elt F) → (⟨S8x20000, .i1⟩ : BufTy).Contents (Elt F)),
    unary main_v90 main_v95 ((extui 32 · natLt_1_32) : (⟨S8x20000, .i1⟩ : BufTy).Contents (Elt F) → (⟨S8x20000, .i32⟩ : BufTy).Contents (Elt F)),
    nullary main_c_8 (constantI S_ 32 0#32),
    binary main_v95 main_c_8 main_v96 ((fun x v => Host.reduce IntOp.addi x v reducesTo_S8x20000_S8_d1 h_S_) : (⟨S8x20000, .i32⟩ : BufTy).Contents (Elt F) → (⟨S_, .i32⟩ : BufTy).Contents (Elt F) → (⟨S8, .i32⟩ : BufTy).Contents (Elt F)),
    unary main_v96 main_v97 (sitofp .f32 : (⟨S8, .i32⟩ : BufTy).Contents (Elt F) → (⟨S8, .f32⟩ : BufTy).Contents (Elt F)) ]

/-- The operations that compute the targets: one-hot classes, zero rows, rows of minus one. -/
abbrev opsTarget : List (HloOp τ sig (Elt F)) :=
  [ unary main_v88 main_v98 ((extractStridedSlice S8x20000x1 ![0, 0, 4] · slices_S8x20000x11_S8x20000x1_0_0_4) : (⟨S8x20000x11, .f32⟩ : BufTy).Contents (Elt F) → (⟨S8x20000x1, .f32⟩ : BufTy).Contents (Elt F)),
    reshape main_v98 main_v99 (rfl : (.f32 : EltTy) = .f32) shapeCasts_S8x20000x1_S8x20000,
    unary main_v99 main_v100 (fptosi 32 : (⟨S8x20000, .f32⟩ : BufTy).Contents (Elt F) → (⟨S8x20000, .i32⟩ : BufTy).Contents (Elt F)),
    TRef.unary (TRef.of (T := ⟨S8x20000, .i32⟩) main_v100) (TRef.of (T := ⟨S8x20000x1, .i32⟩) main_call5_v0) (broadcastInDim S8x20000x1 ![0, 1] bcast_S8x20000_S8x20000x1_0_1),
    TRef.nullary (TRef.of (T := ⟨S1x80, .i32⟩) main_call5_v1) (iotaInDim S1x80 32 1),
    TRef.unary (TRef.of (T := ⟨S1x80, .i32⟩) main_call5_v1) (TRef.of (T := ⟨S1x1x80, .i32⟩) main_call5_v2) (broadcastInDim S1x1x80 ![1, 2] bcast_S1x80_S1x1x80_1_2),
    TRef.unary (TRef.of (T := ⟨S8x20000x1, .i32⟩) main_call5_v0) (TRef.of (T := ⟨S8x20000x80, .i32⟩) main_call5_v3) (broadcastInDim S8x20000x80 ![0, 1, 2] bcast_S8x20000x1_S8x20000x80_0_1_2),
    TRef.unary (TRef.of (T := ⟨S1x1x80, .i32⟩) main_call5_v2) (TRef.of (T := ⟨S8x20000x80, .i32⟩) main_call5_v4) (broadcastInDim S8x20000x80 ![0, 1, 2] bcast_S1x1x80_S8x20000x80_0_1_2),
    TRef.binary (TRef.of (T := ⟨S8x20000x80, .i32⟩) main_call5_v3) (TRef.of (T := ⟨S8x20000x80, .i32⟩) main_call5_v4) (TRef.of (T := ⟨S8x20000x80, .i1⟩) main_call5_v5) (cmpi .eq),
    TRef.unary (TRef.of (T := ⟨S8x20000x80, .i1⟩) main_call5_v5) (TRef.of (T := ⟨S8x20000x80, .f32⟩) main_v101) (uitofp .f32),
    unary main_v90 main_v102 (broadcastInDim S8x20000x1 ![0, 1] bcast_S8x20000_S8x20000x1_0_1 : (⟨S8x20000, .i1⟩ : BufTy).Contents (Elt F) → (⟨S8x20000x1, .i1⟩ : BufTy).Contents (Elt F)),
    nullary main_cst_9 (constant S_ .f32 0x00000000#32),
    TRef.unary (TRef.of (T := ⟨S_, .f32⟩) main_cst_9) (TRef.of (T := ⟨S_, .f32⟩) main_call6_v0) id,
    TRef.unary (TRef.of (T := ⟨S8x20000x1, .i1⟩) main_v102) (TRef.of (T := ⟨S8x20000x80, .i1⟩) main_call6_v1) (broadcastInDim S8x20000x80 ![0, 1, 2] bcast_S8x20000x1_S8x20000x80_0_1_2),
    TRef.unary (TRef.of (T := ⟨S_, .f32⟩) main_call6_v0) (TRef.of (T := ⟨S20000x80, .f32⟩) main_call6_v2) (broadcastInDim S20000x80 ![] bcast_S_S20000x80),
    TRef.unary (TRef.of (T := ⟨S20000x80, .f32⟩) main_call6_v2) (TRef.of (T := ⟨S8x20000x80, .f32⟩) main_call6_v3) (broadcastInDim S8x20000x80 ![1, 2] bcast_S20000x80_S8x20000x80_1_2),
    TRef.ternary (TRef.of (T := ⟨S8x20000x80, .i1⟩) main_call6_v1) (TRef.of (T := ⟨S8x20000x80, .f32⟩) main_v101) (TRef.of (T := ⟨S8x20000x80, .f32⟩) main_call6_v3) (TRef.of (T := ⟨S8x20000x80, .f32⟩) main_v103) select,
    unary main_v94 main_v104 (broadcastInDim S8x20000x1 ![0, 1] bcast_S8x20000_S8x20000x1_0_1 : (⟨S8x20000, .i1⟩ : BufTy).Contents (Elt F) → (⟨S8x20000x1, .i1⟩ : BufTy).Contents (Elt F)),
    nullary main_cst_10 (constant S_ .f32 0xBF800000#32),
    TRef.unary (TRef.of (T := ⟨S_, .f32⟩) main_cst_10) (TRef.of (T := ⟨S_, .f32⟩) main_call7_v0) id,
    TRef.unary (TRef.of (T := ⟨S8x20000x1, .i1⟩) main_v104) (TRef.of (T := ⟨S8x20000x80, .i1⟩) main_call7_v1) (broadcastInDim S8x20000x80 ![0, 1, 2] bcast_S8x20000x1_S8x20000x80_0_1_2),
    TRef.unary (TRef.of (T := ⟨S_, .f32⟩) main_call7_v0) (TRef.of (T := ⟨S20000x80, .f32⟩) main_call7_v2) (broadcastInDim S20000x80 ![] bcast_S_S20000x80),
    TRef.unary (TRef.of (T := ⟨S20000x80, .f32⟩) main_call7_v2) (TRef.of (T := ⟨S8x20000x80, .f32⟩) main_call7_v3) (broadcastInDim S8x20000x80 ![1, 2] bcast_S20000x80_S8x20000x80_1_2),
    TRef.ternary (TRef.of (T := ⟨S8x20000x80, .i1⟩) main_call7_v1) (TRef.of (T := ⟨S8x20000x80, .f32⟩) main_call7_v3) (TRef.of (T := ⟨S8x20000x80, .f32⟩) main_v103) (TRef.of (T := ⟨S8x20000x80, .f32⟩) main_v105) select,
    nullary main_cst_11 (constant S_ .f32 0x3F800000#32) ]

/-- The operations that compute the focal weight. -/
abbrev opsWeight : List (HloOp τ sig (Elt F)) :=
  [ unary main_cst_11 main_v106 (broadcastInDim S8x20000x80 ![] bcast_S_S8x20000x80 : (⟨S_, .f32⟩ : BufTy).Contents (Elt F) → (⟨S8x20000x80, .f32⟩ : BufTy).Contents (Elt F)),
    binary main_v105 main_v106 main_v107 (cmpf .oeq : (⟨S8x20000x80, .f32⟩ : BufTy).Contents (Elt F) → (⟨S8x20000x80, .f32⟩ : BufTy).Contents (Elt F) → (⟨S8x20000x80, .i1⟩ : BufTy).Contents (Elt F)),
    nullary main_cst_12 (constant S_ .f32 0x3E800000#32),
    nullary main_cst_13 (constant S_ .f32 0x3F400000#32),
    TRef.unary (TRef.of (T := ⟨S_, .f32⟩) main_cst_12) (TRef.of (T := ⟨S20000x80, .f32⟩) main_call8_v0) (broadcastInDim S20000x80 ![] bcast_S_S20000x80),
    TRef.unary (TRef.of (T := ⟨S_, .f32⟩) main_cst_13) (TRef.of (T := ⟨S20000x80, .f32⟩) main_call8_v1) (broadcastInDim S20000x80 ![] bcast_S_S20000x80),
    TRef.unary (TRef.of (T := ⟨S20000x80, .f32⟩) main_call8_v1) (TRef.of (T := ⟨S8x20000x80, .f32⟩) main_call8_v2) (broadcastInDim S8x20000x80 ![1, 2] bcast_S20000x80_S8x20000x80_1_2),
    TRef.unary (TRef.of (T := ⟨S20000x80, .f32⟩) main_call8_v0) (TRef.of (T := ⟨S8x20000x80, .f32⟩) main_call8_v3) (broadcastInDim S8x20000x80 ![1, 2] bcast_S20000x80_S8x20000x80_1_2),
    TRef.ternary (TRef.of (T := ⟨S8x20000x80, .i1⟩) main_v107) (TRef.of (T := ⟨S8x20000x80, .f32⟩) main_call8_v3) (TRef.of (T := ⟨S8x20000x80, .f32⟩) main_call8_v2) (TRef.of (T := ⟨S8x20000x80, .f32⟩) main_v108) select,
    nullary main_cst_14 (constant S_ .f32 0x3F800000#32),
    unary main_cst_14 main_v109 (broadcastInDim S8x20000x80 ![] bcast_S_S8x20000x80 : (⟨S_, .f32⟩ : BufTy).Contents (Elt F) → (⟨S8x20000x80, .f32⟩ : BufTy).Contents (Elt F)),
    binary main_v105 main_v109 main_v110 (cmpf .oeq : (⟨S8x20000x80, .f32⟩ : BufTy).Contents (Elt F) → (⟨S8x20000x80, .f32⟩ : BufTy).Contents (Elt F) → (⟨S8x20000x80, .i1⟩ : BufTy).Contents (Elt F)),
    nullary main_cst_15 (constant S_ .f32 0x3F800000#32),
    unary main_cst_15 main_v111 (broadcastInDim S8x20000x80 ![] bcast_S_S8x20000x80 : (⟨S_, .f32⟩ : BufTy).Contents (Elt F) → (⟨S8x20000x80, .f32⟩ : BufTy).Contents (Elt F)),
    binary main_v111 main_v1 main_v112 (subf : (⟨S8x20000x80, .f32⟩ : BufTy).Contents (Elt F) → (⟨S8x20000x80, .f32⟩ : BufTy).Contents (Elt F) → (⟨S8x20000x80, .f32⟩ : BufTy).Contents (Elt F)),
    TRef.ternary (TRef.of (T := ⟨S8x20000x80, .i1⟩) main_v110) (TRef.of (T := ⟨S8x20000x80, .f32⟩) main_v112) (TRef.of (T := ⟨S8x20000x80, .f32⟩) main_v1) (TRef.of (T := ⟨S8x20000x80, .f32⟩) main_v113) select,
    nullary main_cst_16 (constant S_ .f32 0x40000000#32),
    unary main_cst_16 main_v114 (broadcastInDim S8x20000x80 ![] bcast_S_S8x20000x80 : (⟨S_, .f32⟩ : BufTy).Contents (Elt F) → (⟨S8x20000x80, .f32⟩ : BufTy).Contents (Elt F)),
    binary main_v113 main_v114 main_v115 (Host.powf : (⟨S8x20000x80, .f32⟩ : BufTy).Contents (Elt F) → (⟨S8x20000x80, .f32⟩ : BufTy).Contents (Elt F) → (⟨S8x20000x80, .f32⟩ : BufTy).Contents (Elt F)),
    unary main_v108 main_v116 (id : (⟨S8x20000x80, .f32⟩ : BufTy).Contents (Elt F) → (⟨S8x20000x80, .f32⟩ : BufTy).Contents (Elt F)),
    binary main_v116 main_v115 main_v117 (mulf : (⟨S8x20000x80, .f32⟩ : BufTy).Contents (Elt F) → (⟨S8x20000x80, .f32⟩ : BufTy).Contents (Elt F) → (⟨S8x20000x80, .f32⟩ : BufTy).Contents (Elt F)) ]

/-- The operations that compute the cross entropy, weighted, without the ignored rows. -/
abbrev opsEntropy : List (HloOp τ sig (Elt F)) :=
  [ unary main_v1 main_v118 (Host.log : (⟨S8x20000x80, .f32⟩ : BufTy).Contents (Elt F) → (⟨S8x20000x80, .f32⟩ : BufTy).Contents (Elt F)),
    binary main_v105 main_v118 main_v119 (mulf : (⟨S8x20000x80, .f32⟩ : BufTy).Contents (Elt F) → (⟨S8x20000x80, .f32⟩ : BufTy).Contents (Elt F) → (⟨S8x20000x80, .f32⟩ : BufTy).Contents (Elt F)),
    nullary main_cst_17 (constant S_ .f32 0x3F800000#32),
    unary main_cst_17 main_v120 (broadcastInDim S8x20000x80 ![] bcast_S_S8x20000x80 : (⟨S_, .f32⟩ : BufTy).Contents (Elt F) → (⟨S8x20000x80, .f32⟩ : BufTy).Contents (Elt F)),
    binary main_v120 main_v105 main_v121 (subf : (⟨S8x20000x80, .f32⟩ : BufTy).Contents (Elt F) → (⟨S8x20000x80, .f32⟩ : BufTy).Contents (Elt F) → (⟨S8x20000x80, .f32⟩ : BufTy).Contents (Elt F)),
    nullary main_cst_18 (constant S_ .f32 0x3F800000#32),
    unary main_cst_18 main_v122 (broadcastInDim S8x20000x80 ![] bcast_S_S8x20000x80 : (⟨S_, .f32⟩ : BufTy).Contents (Elt F) → (⟨S8x20000x80, .f32⟩ : BufTy).Contents (Elt F)),
    binary main_v122 main_v1 main_v123 (subf : (⟨S8x20000x80, .f32⟩ : BufTy).Contents (Elt F) → (⟨S8x20000x80, .f32⟩ : BufTy).Contents (Elt F) → (⟨S8x20000x80, .f32⟩ : BufTy).Contents (Elt F)),
    unary main_v123 main_v124 (Host.log : (⟨S8x20000x80, .f32⟩ : BufTy).Contents (Elt F) → (⟨S8x20000x80, .f32⟩ : BufTy).Contents (Elt F)),
    binary main_v121 main_v124 main_v125 (mulf : (⟨S8x20000x80, .f32⟩ : BufTy).Contents (Elt F) → (⟨S8x20000x80, .f32⟩ : BufTy).Contents (Elt F) → (⟨S8x20000x80, .f32⟩ : BufTy).Contents (Elt F)),
    binary main_v119 main_v125 main_v126 (addf : (⟨S8x20000x80, .f32⟩ : BufTy).Contents (Elt F) → (⟨S8x20000x80, .f32⟩ : BufTy).Contents (Elt F) → (⟨S8x20000x80, .f32⟩ : BufTy).Contents (Elt F)),
    unary main_v126 main_v127 (Host.negf : (⟨S8x20000x80, .f32⟩ : BufTy).Contents (Elt F) → (⟨S8x20000x80, .f32⟩ : BufTy).Contents (Elt F)),
    nullary main_cst_19 (constant S_ .f32 0xBF800000#32),
    unary main_cst_19 main_v128 (broadcastInDim S8x20000x80 ![] bcast_S_S8x20000x80 : (⟨S_, .f32⟩ : BufTy).Contents (Elt F) → (⟨S8x20000x80, .f32⟩ : BufTy).Contents (Elt F)),
    binary main_v105 main_v128 main_v129 (cmpf .une : (⟨S8x20000x80, .f32⟩ : BufTy).Contents (Elt F) → (⟨S8x20000x80, .f32⟩ : BufTy).Contents (Elt F) → (⟨S8x20000x80, .i1⟩ : BufTy).Contents (Elt F)),
    binary main_v117 main_v127 main_v130 (mulf : (⟨S8x20000x80, .f32⟩ : BufTy).Contents (Elt F) → (⟨S8x20000x80, .f32⟩ : BufTy).Contents (Elt F) → (⟨S8x20000x80, .f32⟩ : BufTy).Contents (Elt F)),
    nullary main_cst_20 (constant S_ .f32 0x00000000#32),
    TRef.unary (TRef.of (T := ⟨S_, .f32⟩) main_cst_20) (TRef.of (T := ⟨S_, .f32⟩) main_call10_v0) id,
    TRef.unary (TRef.of (T := ⟨S_, .f32⟩) main_call10_v0) (TRef.of (T := ⟨S20000x80, .f32⟩) main_call10_v1) (broadcastInDim S20000x80 ![] bcast_S_S20000x80),
    TRef.unary (TRef.of (T := ⟨S20000x80, .f32⟩) main_call10_v1) (TRef.of (T := ⟨S8x20000x80, .f32⟩) main_call10_v2) (broadcastInDim S8x20000x80 ![1, 2] bcast_S20000x80_S8x20000x80_1_2),
    TRef.ternary (TRef.of (T := ⟨S8x20000x80, .i1⟩) main_v129) (TRef.of (T := ⟨S8x20000x80, .f32⟩) main_v130) (TRef.of (T := ⟨S8x20000x80, .f32⟩) main_call10_v2) (TRef.of (T := ⟨S8x20000x80, .f32⟩) main_v131) select ]

/-- The operations that compute the classification loss of each image. -/
abbrev opsCls : List (HloOp τ sig (Elt F)) :=
  [ nullary main_cst_21 (constant S_ .f32 0x00000000#32),
    binary main_v131 main_cst_21 main_v132 ((fun x v => Host.reduceAdd x v reducesTo_S8x20000x80_S8_d1_2 h_S_) : (⟨S8x20000x80, .f32⟩ : BufTy).Contents (Elt F) → (⟨S_, .f32⟩ : BufTy).Contents (Elt F) → (⟨S8, .f32⟩ : BufTy).Contents (Elt F)),
    nullary main_cst_22 (constant S_ .f32 0x3F800000#32),
    unary main_cst_22 main_v133 (broadcastInDim S8 ![] bcast_S_S8 : (⟨S_, .f32⟩ : BufTy).Contents (Elt F) → (⟨S8, .f32⟩ : BufTy).Contents (Elt F)),
    binary main_v97 main_v133 main_v134 (maximumf : (⟨S8, .f32⟩ : BufTy).Contents (Elt F) → (⟨S8, .f32⟩ : BufTy).Contents (Elt F) → (⟨S8, .f32⟩ : BufTy).Contents (Elt F)),
    binary main_v132 main_v134 main_v135 (Host.divf : (⟨S8, .f32⟩ : BufTy).Contents (Elt F) → (⟨S8, .f32⟩ : BufTy).Contents (Elt F) → (⟨S8, .f32⟩ : BufTy).Contents (Elt F)) ]

/-- The operations that compute the anchors' widths, heights and centres. -/
abbrev opsAnchor : List (HloOp τ sig (Elt F)) :=
  [ unary main_v0 main_v136 ((extractStridedSlice S20000x1 ![0, 2] · slices_S20000x4_S20000x1_0_2) : (⟨S20000x4, .f32⟩ : BufTy).Contents (Elt F) → (⟨S20000x1, .f32⟩ : BufTy).Contents (Elt F)),
    reshape main_v136 main_v137 (rfl : (.f32 : EltTy) = .f32) shapeCasts_S20000x1_S20000,
    unary main_v0 main_v138 ((extractStridedSlice S20000x1 ![0, 0] · slices_S20000x4_S20000x1_0_0) : (⟨S20000x4, .f32⟩ : BufTy).Contents (Elt F) → (⟨S20000x1, .f32⟩ : BufTy).Contents (Elt F)),
    reshape main_v138 main_v139 (rfl : (.f32 : EltTy) = .f32) shapeCasts_S20000x1_S20000,
    binary main_v137 main_v139 main_v140 (subf : (⟨S20000, .f32⟩ : BufTy).Contents (Elt F) → (⟨S20000, .f32⟩ : BufTy).Contents (Elt F) → (⟨S20000, .f32⟩ : BufTy).Contents (Elt F)),
    unary main_v0 main_v141 ((extractStridedSlice S20000x1 ![0, 3] · slices_S20000x4_S20000x1_0_3) : (⟨S20000x4, .f32⟩ : BufTy).Contents (Elt F) → (⟨S20000x1, .f32⟩ : BufTy).Contents (Elt F)),
    reshape main_v141 main_v142 (rfl : (.f32 : EltTy) = .f32) shapeCasts_S20000x1_S20000,
    unary main_v0 main_v143 ((extractStridedSlice S20000x1 ![0, 1] · slices_S20000x4_S20000x1_0_1) : (⟨S20000x4, .f32⟩ : BufTy).Contents (Elt F) → (⟨S20000x1, .f32⟩ : BufTy).Contents (Elt F)),
    reshape main_v143 main_v144 (rfl : (.f32 : EltTy) = .f32) shapeCasts_S20000x1_S20000,
    binary main_v142 main_v144 main_v145 (subf : (⟨S20000, .f32⟩ : BufTy).Contents (Elt F) → (⟨S20000, .f32⟩ : BufTy).Contents (Elt F) → (⟨S20000, .f32⟩ : BufTy).Contents (Elt F)),
    unary main_v0 main_v146 ((extractStridedSlice S20000x1 ![0, 0] · slices_S20000x4_S20000x1_0_0) : (⟨S20000x4, .f32⟩ : BufTy).Contents (Elt F) → (⟨S20000x1, .f32⟩ : BufTy).Contents (Elt F)),
    reshape main_v146 main_v147 (rfl : (.f32 : EltTy) = .f32) shapeCasts_S20000x1_S20000,
    nullary main_cst_23 (constant S_ .f32 0x3F000000#32),
    unary main_cst_23 main_v148 (broadcastInDim S20000 ![] bcast_S_S20000 : (⟨S_, .f32⟩ : BufTy).Contents (Elt F) → (⟨S20000, .f32⟩ : BufTy).Contents (Elt F)),
    binary main_v148 main_v140 main_v149 (mulf : (⟨S20000, .f32⟩ : BufTy).Contents (Elt F) → (⟨S20000, .f32⟩ : BufTy).Contents (Elt F) → (⟨S20000, .f32⟩ : BufTy).Contents (Elt F)),
    binary main_v147 main_v149 main_v150 (addf : (⟨S20000, .f32⟩ : BufTy).Contents (Elt F) → (⟨S20000, .f32⟩ : BufTy).Contents (Elt F) → (⟨S20000, .f32⟩ : BufTy).Contents (Elt F)),
    unary main_v0 main_v151 ((extractStridedSlice S20000x1 ![0, 1] · slices_S20000x4_S20000x1_0_1) : (⟨S20000x4, .f32⟩ : BufTy).Contents (Elt F) → (⟨S20000x1, .f32⟩ : BufTy).Contents (Elt F)),
    reshape main_v151 main_v152 (rfl : (.f32 : EltTy) = .f32) shapeCasts_S20000x1_S20000,
    nullary main_cst_24 (constant S_ .f32 0x3F000000#32) ]

/-- The operations that compute the assigned boxes' widths, heights and centres. -/
abbrev opsBox : List (HloOp τ sig (Elt F)) :=
  [ unary main_cst_24 main_v153 (broadcastInDim S20000 ![] bcast_S_S20000 : (⟨S_, .f32⟩ : BufTy).Contents (Elt F) → (⟨S20000, .f32⟩ : BufTy).Contents (Elt F)),
    binary main_v153 main_v145 main_v154 (mulf : (⟨S20000, .f32⟩ : BufTy).Contents (Elt F) → (⟨S20000, .f32⟩ : BufTy).Contents (Elt F) → (⟨S20000, .f32⟩ : BufTy).Contents (Elt F)),
    binary main_v152 main_v154 main_v155 (addf : (⟨S20000, .f32⟩ : BufTy).Contents (Elt F) → (⟨S20000, .f32⟩ : BufTy).Contents (Elt F) → (⟨S20000, .f32⟩ : BufTy).Contents (Elt F)),
    unary main_v88 main_v156 ((extractStridedSlice S8x20000x1 ![0, 0, 2] · slices_S8x20000x11_S8x20000x1_0_0_2) : (⟨S8x20000x11, .f32⟩ : BufTy).Contents (Elt F) → (⟨S8x20000x1, .f32⟩ : BufTy).Contents (Elt F)),
    reshape main_v156 main_v157 (rfl : (.f32 : EltTy) = .f32) shapeCasts_S8x20000x1_S8x20000,
    unary main_v88 main_v158 ((extractStridedSlice S8x20000x1 ![0, 0, 0] · slices_S8x20000x11_S8x20000x1_0_0_0) : (⟨S8x20000x11, .f32⟩ : BufTy).Contents (Elt F) → (⟨S8x20000x1, .f32⟩ : BufTy).Contents (Elt F)),
    reshape main_v158 main_v159 (rfl : (.f32 : EltTy) = .f32) shapeCasts_S8x20000x1_S8x20000,
    binary main_v157 main_v159 main_v160 (subf : (⟨S8x20000, .f32⟩ : BufTy).Contents (Elt F) → (⟨S8x20000, .f32⟩ : BufTy).Contents (Elt F) → (⟨S8x20000, .f32⟩ : BufTy).Contents (Elt F)),
    unary main_v88 main_v161 ((extractStridedSlice S8x20000x1 ![0, 0, 3] · slices_S8x20000x11_S8x20000x1_0_0_3) : (⟨S8x20000x11, .f32⟩ : BufTy).Contents (Elt F) → (⟨S8x20000x1, .f32⟩ : BufTy).Contents (Elt F)),
    reshape main_v161 main_v162 (rfl : (.f32 : EltTy) = .f32) shapeCasts_S8x20000x1_S8x20000,
    unary main_v88 main_v163 ((extractStridedSlice S8x20000x1 ![0, 0, 1] · slices_S8x20000x11_S8x20000x1_0_0_1) : (⟨S8x20000x11, .f32⟩ : BufTy).Contents (Elt F) → (⟨S8x20000x1, .f32⟩ : BufTy).Contents (Elt F)),
    reshape main_v163 main_v164 (rfl : (.f32 : EltTy) = .f32) shapeCasts_S8x20000x1_S8x20000,
    binary main_v162 main_v164 main_v165 (subf : (⟨S8x20000, .f32⟩ : BufTy).Contents (Elt F) → (⟨S8x20000, .f32⟩ : BufTy).Contents (Elt F) → (⟨S8x20000, .f32⟩ : BufTy).Contents (Elt F)),
    unary main_v88 main_v166 ((extractStridedSlice S8x20000x1 ![0, 0, 0] · slices_S8x20000x11_S8x20000x1_0_0_0) : (⟨S8x20000x11, .f32⟩ : BufTy).Contents (Elt F) → (⟨S8x20000x1, .f32⟩ : BufTy).Contents (Elt F)),
    reshape main_v166 main_v167 (rfl : (.f32 : EltTy) = .f32) shapeCasts_S8x20000x1_S8x20000,
    nullary main_cst_25 (constant S_ .f32 0x3F000000#32),
    unary main_cst_25 main_v168 (broadcastInDim S8x20000 ![] bcast_S_S8x20000 : (⟨S_, .f32⟩ : BufTy).Contents (Elt F) → (⟨S8x20000, .f32⟩ : BufTy).Contents (Elt F)),
    binary main_v168 main_v160 main_v169 (mulf : (⟨S8x20000, .f32⟩ : BufTy).Contents (Elt F) → (⟨S8x20000, .f32⟩ : BufTy).Contents (Elt F) → (⟨S8x20000, .f32⟩ : BufTy).Contents (Elt F)),
    binary main_v167 main_v169 main_v170 (addf : (⟨S8x20000, .f32⟩ : BufTy).Contents (Elt F) → (⟨S8x20000, .f32⟩ : BufTy).Contents (Elt F) → (⟨S8x20000, .f32⟩ : BufTy).Contents (Elt F)),
    unary main_v88 main_v171 ((extractStridedSlice S8x20000x1 ![0, 0, 1] · slices_S8x20000x11_S8x20000x1_0_0_1) : (⟨S8x20000x11, .f32⟩ : BufTy).Contents (Elt F) → (⟨S8x20000x1, .f32⟩ : BufTy).Contents (Elt F)),
    reshape main_v171 main_v172 (rfl : (.f32 : EltTy) = .f32) shapeCasts_S8x20000x1_S8x20000,
    nullary main_cst_26 (constant S_ .f32 0x3F000000#32),
    unary main_cst_26 main_v173 (broadcastInDim S8x20000 ![] bcast_S_S8x20000 : (⟨S_, .f32⟩ : BufTy).Contents (Elt F) → (⟨S8x20000, .f32⟩ : BufTy).Contents (Elt F)),
    binary main_v173 main_v165 main_v174 (mulf : (⟨S8x20000, .f32⟩ : BufTy).Contents (Elt F) → (⟨S8x20000, .f32⟩ : BufTy).Contents (Elt F) → (⟨S8x20000, .f32⟩ : BufTy).Contents (Elt F)),
    binary main_v172 main_v174 main_v175 (addf : (⟨S8x20000, .f32⟩ : BufTy).Contents (Elt F) → (⟨S8x20000, .f32⟩ : BufTy).Contents (Elt F) → (⟨S8x20000, .f32⟩ : BufTy).Contents (Elt F)),
    nullary main_cst_27 (constant S_ .f32 0x3F800000#32),
    TRef.unary (TRef.of (T := ⟨S_, .f32⟩) main_cst_27) (TRef.of (T := ⟨S_, .f32⟩) main_call11_v0) id,
    TRef.unary (TRef.of (T := ⟨S_, .f32⟩) main_call11_v0) (TRef.of (T := ⟨S8x20000, .f32⟩) main_call11_v1) (broadcastInDim S8x20000 ![] bcast_S_S8x20000),
    TRef.binary (TRef.of (T := ⟨S8x20000, .f32⟩) main_call11_v1) (TRef.of (T := ⟨S8x20000, .f32⟩) main_v160) (TRef.of (T := ⟨S8x20000, .f32⟩) main_v176) maximumf,
    nullary main_cst_28 (constant S_ .f32 0x3F800000#32) ]

/-- The operations that compute the first three regression targets. -/
abbrev opsDelta : List (HloOp τ sig (Elt F)) :=
  [ TRef.unary (TRef.of (T := ⟨S_, .f32⟩) main_cst_28) (TRef.of (T := ⟨S_, .f32⟩) main_call12_v0) id,
    TRef.unary (TRef.of (T := ⟨S_, .f32⟩) main_call12_v0) (TRef.of (T := ⟨S8x20000, .f32⟩) main_call12_v1) (broadcastInDim S8x20000 ![] bcast_S_S8x20000),
    TRef.binary (TRef.of (T := ⟨S8x20000, .f32⟩) main_call12_v1) (TRef.of (T := ⟨S8x20000, .f32⟩) main_v165) (TRef.of (T := ⟨S8x20000, .f32⟩) main_v177) maximumf,
    unary main_v150 main_v178 (broadcastInDim S1x20000 ![1] bcast_S20000_S1x20000_1 : (⟨S20000, .f32⟩ : BufTy).Contents (Elt F) → (⟨S1x20000, .f32⟩ : BufTy).Contents (Elt F)),
    unary main_v178 main_v179 (broadcastInDim S8x20000 ![0, 1] bcast_S1x20000_S8x20000_0_1 : (⟨S1x20000, .f32⟩ : BufTy).Contents (Elt F) → (⟨S8x20000, .f32⟩ : BufTy).Contents (Elt F)),
    binary main_v170 main_v179 main_v180 (subf : (⟨S8x20000, .f32⟩ : BufTy).Contents (Elt F) → (⟨S8x20000, .f32⟩ : BufTy).Contents (Elt F) → (⟨S8x20000, .f32⟩ : BufTy).Contents (Elt F)),
    unary main_v140 main_v181 (broadcastInDim S1x20000 ![1] bcast_S20000_S1x20000_1 : (⟨S20000, .f32⟩ : BufTy).Contents (Elt F) → (⟨S1x20000, .f32⟩ : BufTy).Contents (Elt F)),
    unary main_v181 main_v182 (broadcastInDim S8x20000 ![0, 1] bcast_S1x20000_S8x20000_0_1 : (⟨S1x20000, .f32⟩ : BufTy).Contents (Elt F) → (⟨S8x20000, .f32⟩ : BufTy).Contents (Elt F)),
    binary main_v180 main_v182 main_v183 (Host.divf : (⟨S8x20000, .f32⟩ : BufTy).Contents (Elt F) → (⟨S8x20000, .f32⟩ : BufTy).Contents (Elt F) → (⟨S8x20000, .f32⟩ : BufTy).Contents (Elt F)),
    unary main_v155 main_v184 (broadcastInDim S1x20000 ![1] bcast_S20000_S1x20000_1 : (⟨S20000, .f32⟩ : BufTy).Contents (Elt F) → (⟨S1x20000, .f32⟩ : BufTy).Contents (Elt F)),
    unary main_v184 main_v185 (broadcastInDim S8x20000 ![0, 1] bcast_S1x20000_S8x20000_0_1 : (⟨S1x20000, .f32⟩ : BufTy).Contents (Elt F) → (⟨S8x20000, .f32⟩ : BufTy).Contents (Elt F)),
    binary main_v175 main_v185 main_v186 (subf : (⟨S8x20000, .f32⟩ : BufTy).Contents (Elt F) → (⟨S8x20000, .f32⟩ : BufTy).Contents (Elt F) → (⟨S8x20000, .f32⟩ : BufTy).Contents (Elt F)),
    unary main_v145 main_v187 (broadcastInDim S1x20000 ![1] bcast_S20000_S1x20000_1 : (⟨S20000, .f32⟩ : BufTy).Contents (Elt F) → (⟨S1x20000, .f32⟩ : BufTy).Contents (Elt F)),
    unary main_v187 main_v188 (broadcastInDim S8x20000 ![0, 1] bcast_S1x20000_S8x20000_0_1 : (⟨S1x20000, .f32⟩ : BufTy).Contents (Elt F) → (⟨S8x20000, .f32⟩ : BufTy).Contents (Elt F)),
    binary main_v186 main_v188 main_v189 (Host.divf : (⟨S8x20000, .f32⟩ : BufTy).Contents (Elt F) → (⟨S8x20000, .f32⟩ : BufTy).Contents (Elt F) → (⟨S8x20000, .f32⟩ : BufTy).Contents (Elt F)),
    unary main_v140 main_v190 (broadcastInDim S1x20000 ![1] bcast_S20000_S1x20000_1 : (⟨S20000, .f32⟩ : BufTy).Contents (Elt F) → (⟨S1x20000, .f32⟩ : BufTy).Contents (Elt F)),
    unary main_v190 main_v191 (broadcastInDim S8x20000 ![0, 1] bcast_S1x20000_S8x20000_0_1 : (⟨S1x20000, .f32⟩ : BufTy).Contents (Elt F) → (⟨S8x20000, .f32⟩ : BufTy).Contents (Elt F)),
    binary main_v176 main_v191 main_v192 (Host.divf : (⟨S8x20000, .f32⟩ : BufTy).Contents (Elt F) → (⟨S8x20000, .f32⟩ : BufTy).Contents (Elt F) → (⟨S8x20000, .f32⟩ : BufTy).Contents (Elt F)),
    unary main_v192 main_v193 (Host.log : (⟨S8x20000, .f32⟩ : BufTy).Contents (Elt F) → (⟨S8x20000, .f32⟩ : BufTy).Contents (Elt F)),
    unary main_v145 main_v194 (broadcastInDim S1x20000 ![1] bcast_S20000_S1x20000_1 : (⟨S20000, .f32⟩ : BufTy).Contents (Elt F) → (⟨S1x20000, .f32⟩ : BufTy).Contents (Elt F)),
    unary main_v194 main_v195 (broadcastInDim S8x20000 ![0, 1] bcast_S1x20000_S8x20000_0_1 : (⟨S1x20000, .f32⟩ : BufTy).Contents (Elt F) → (⟨S8x20000, .f32⟩ : BufTy).Contents (Elt F)),
    binary main_v177 main_v195 main_v196 (Host.divf : (⟨S8x20000, .f32⟩ : BufTy).Contents (Elt F) → (⟨S8x20000, .f32⟩ : BufTy).Contents (Elt F) → (⟨S8x20000, .f32⟩ : BufTy).Contents (Elt F)),
    unary main_v196 main_v197 (Host.log : (⟨S8x20000, .f32⟩ : BufTy).Contents (Elt F) → (⟨S8x20000, .f32⟩ : BufTy).Contents (Elt F)),
    nullary main_cst_29 (constant S_ .f32 0x3DCCCCCD#32),
    unary main_cst_29 main_v198 (broadcastInDim S8x20000 ![] bcast_S_S8x20000 : (⟨S_, .f32⟩ : BufTy).Contents (Elt F) → (⟨S8x20000, .f32⟩ : BufTy).Contents (Elt F)),
    binary main_v183 main_v198 main_v199 (Host.divf : (⟨S8x20000, .f32⟩ : BufTy).Contents (Elt F) → (⟨S8x20000, .f32⟩ : BufTy).Contents (Elt F) → (⟨S8x20000, .f32⟩ : BufTy).Contents (Elt F)),
    nullary main_cst_30 (constant S_ .f32 0x3DCCCCCD#32),
    unary main_cst_30 main_v200 (broadcastInDim S8x20000 ![] bcast_S_S8x20000 : (⟨S_, .f32⟩ : BufTy).Contents (Elt F) → (⟨S8x20000, .f32⟩ : BufTy).Contents (Elt F)),
    binary main_v189 main_v200 main_v201 (Host.divf : (⟨S8x20000, .f32⟩ : BufTy).Contents (Elt F) → (⟨S8x20000, .f32⟩ : BufTy).Contents (Elt F) → (⟨S8x20000, .f32⟩ : BufTy).Contents (Elt F)),
    nullary main_cst_31 (constant S_ .f32 0x3E4CCCCD#32),
    unary main_cst_31 main_v202 (broadcastInDim S8x20000 ![] bcast_S_S8x20000 : (⟨S_, .f32⟩ : BufTy).Contents (Elt F) → (⟨S8x20000, .f32⟩ : BufTy).Contents (Elt F)),
    binary main_v193 main_v202 main_v203 (Host.divf : (⟨S8x20000, .f32⟩ : BufTy).Contents (Elt F) → (⟨S8x20000, .f32⟩ : BufTy).Contents (Elt F) → (⟨S8x20000, .f32⟩ : BufTy).Contents (Elt F)),
    nullary main_cst_32 (constant S_ .f32 0x3E4CCCCD#32),
    unary main_cst_32 main_v204 (broadcastInDim S8x20000 ![] bcast_S_S8x20000 : (⟨S_, .f32⟩ : BufTy).Contents (Elt F) → (⟨S8x20000, .f32⟩ : BufTy).Contents (Elt F)) ]

/-- The operations that compute the smooth L1 losses of the positive anchors. -/
abbrev opsSmooth : List (HloOp τ sig (Elt F)) :=
  [ binary main_v197 main_v204 main_v205 (Host.divf : (⟨S8x20000, .f32⟩ : BufTy).Contents (Elt F) → (⟨S8x20000, .f32⟩ : BufTy).Contents (Elt F) → (⟨S8x20000, .f32⟩ : BufTy).Contents (Elt F)),
    unary main_v199 main_v206 (broadcastInDim S8x20000x1 ![0, 1] bcast_S8x20000_S8x20000x1_0_1 : (⟨S8x20000, .f32⟩ : BufTy).Contents (Elt F) → (⟨S8x20000x1, .f32⟩ : BufTy).Contents (Elt F)),
    unary main_v201 main_v207 (broadcastInDim S8x20000x1 ![0, 1] bcast_S8x20000_S8x20000x1_0_1 : (⟨S8x20000, .f32⟩ : BufTy).Contents (Elt F) → (⟨S8x20000x1, .f32⟩ : BufTy).Contents (Elt F)),
    unary main_v203 main_v208 (broadcastInDim S8x20000x1 ![0, 1] bcast_S8x20000_S8x20000x1_0_1 : (⟨S8x20000, .f32⟩ : BufTy).Contents (Elt F) → (⟨S8x20000x1, .f32⟩ : BufTy).Contents (Elt F)),
    unary main_v205 main_v209 (broadcastInDim S8x20000x1 ![0, 1] bcast_S8x20000_S8x20000x1_0_1 : (⟨S8x20000, .f32⟩ : BufTy).Contents (Elt F) → (⟨S8x20000x1, .f32⟩ : BufTy).Contents (Elt F)),
    nary ![main_v206, main_v207, main_v208, main_v209] main_v210 (fun u => joinColumns (F := F) (u 0) (u 1) (u 2) (u 3)),
    binary main_v210 main_arg1 main_v211 (subf : (⟨S8x20000x4, .f32⟩ : BufTy).Contents (Elt F) → (⟨S8x20000x4, .f32⟩ : BufTy).Contents (Elt F) → (⟨S8x20000x4, .f32⟩ : BufTy).Contents (Elt F)),
    unary main_v211 main_v212 (Host.absf : (⟨S8x20000x4, .f32⟩ : BufTy).Contents (Elt F) → (⟨S8x20000x4, .f32⟩ : BufTy).Contents (Elt F)),
    nullary main_cst_33 (constant S_ .f32 0x3DE38E39#32),
    unary main_cst_33 main_v213 (broadcastInDim S8x20000x4 ![] bcast_S_S8x20000x4 : (⟨S_, .f32⟩ : BufTy).Contents (Elt F) → (⟨S8x20000x4, .f32⟩ : BufTy).Contents (Elt F)),
    binary main_v212 main_v213 main_v214 (cmpf .ole : (⟨S8x20000x4, .f32⟩ : BufTy).Contents (Elt F) → (⟨S8x20000x4, .f32⟩ : BufTy).Contents (Elt F) → (⟨S8x20000x4, .i1⟩ : BufTy).Contents (Elt F)),
    nullary main_cst_34 (constant S_ .f32 0x40900000#32),
    unary main_cst_34 main_v215 (broadcastInDim S8x20000x4 ![] bcast_S_S8x20000x4 : (⟨S_, .f32⟩ : BufTy).Contents (Elt F) → (⟨S8x20000x4, .f32⟩ : BufTy).Contents (Elt F)),
    binary main_v215 main_v212 main_v216 (mulf : (⟨S8x20000x4, .f32⟩ : BufTy).Contents (Elt F) → (⟨S8x20000x4, .f32⟩ : BufTy).Contents (Elt F) → (⟨S8x20000x4, .f32⟩ : BufTy).Contents (Elt F)),
    binary main_v216 main_v212 main_v217 (mulf : (⟨S8x20000x4, .f32⟩ : BufTy).Contents (Elt F) → (⟨S8x20000x4, .f32⟩ : BufTy).Contents (Elt F) → (⟨S8x20000x4, .f32⟩ : BufTy).Contents (Elt F)),
    nullary main_cst_35 (constant S_ .f32 0x3D638E39#32),
    unary main_cst_35 main_v218 (broadcastInDim S8x20000x4 ![] bcast_S_S8x20000x4 : (⟨S_, .f32⟩ : BufTy).Contents (Elt F) → (⟨S8x20000x4, .f32⟩ : BufTy).Contents (Elt F)),
    binary main_v212 main_v218 main_v219 (subf : (⟨S8x20000x4, .f32⟩ : BufTy).Contents (Elt F) → (⟨S8x20000x4, .f32⟩ : BufTy).Contents (Elt F) → (⟨S8x20000x4, .f32⟩ : BufTy).Contents (Elt F)),
    TRef.ternary (TRef.of (T := ⟨S8x20000x4, .i1⟩) main_v214) (TRef.of (T := ⟨S8x20000x4, .f32⟩) main_v217) (TRef.of (T := ⟨S8x20000x4, .f32⟩) main_v219) (TRef.of (T := ⟨S8x20000x4, .f32⟩) main_v220) select,
    unary main_v90 main_v221 (broadcastInDim S8x20000x1 ![0, 1] bcast_S8x20000_S8x20000x1_0_1 : (⟨S8x20000, .i1⟩ : BufTy).Contents (Elt F) → (⟨S8x20000x1, .i1⟩ : BufTy).Contents (Elt F)),
    nullary main_cst_36 (constant S_ .f32 0x00000000#32),
    TRef.unary (TRef.of (T := ⟨S_, .f32⟩) main_cst_36) (TRef.of (T := ⟨S_, .f32⟩) main_call14_v0) id,
    TRef.unary (TRef.of (T := ⟨S8x20000x1, .i1⟩) main_v221) (TRef.of (T := ⟨S8x20000x4, .i1⟩) main_call14_v1) (broadcastInDim S8x20000x4 ![0, 1, 2] bcast_S8x20000x1_S8x20000x4_0_1_2),
    TRef.unary (TRef.of (T := ⟨S_, .f32⟩) main_call14_v0) (TRef.of (T := ⟨S20000x4, .f32⟩) main_call14_v2) (broadcastInDim S20000x4 ![] bcast_S_S20000x4),
    TRef.unary (TRef.of (T := ⟨S20000x4, .f32⟩) main_call14_v2) (TRef.of (T := ⟨S8x20000x4, .f32⟩) main_call14_v3) (broadcastInDim S8x20000x4 ![1, 2] bcast_S20000x4_S8x20000x4_1_2),
    TRef.ternary (TRef.of (T := ⟨S8x20000x4, .i1⟩) main_call14_v1) (TRef.of (T := ⟨S8x20000x4, .f32⟩) main_v220) (TRef.of (T := ⟨S8x20000x4, .f32⟩) main_call14_v3) (TRef.of (T := ⟨S8x20000x4, .f32⟩) main_v222) select ]

/-- The operations that compute the two losses averaged over the images. -/
abbrev opsMean : List (HloOp τ sig (Elt F)) :=
  [ nullary main_cst_37 (constant S_ .f32 0x00000000#32),
    binary main_v222 main_cst_37 main_v223 ((fun x v => Host.reduceAdd x v reducesTo_S8x20000x4_S8_d1_2 h_S_) : (⟨S8x20000x4, .f32⟩ : BufTy).Contents (Elt F) → (⟨S_, .f32⟩ : BufTy).Contents (Elt F) → (⟨S8, .f32⟩ : BufTy).Contents (Elt F)),
    nullary main_cst_38 (constant S_ .f32 0x40800000#32),
    unary main_cst_38 main_v224 (broadcastInDim S8 ![] bcast_S_S8 : (⟨S_, .f32⟩ : BufTy).Contents (Elt F) → (⟨S8, .f32⟩ : BufTy).Contents (Elt F)),
    binary main_v97 main_v224 main_v225 (mulf : (⟨S8, .f32⟩ : BufTy).Contents (Elt F) → (⟨S8, .f32⟩ : BufTy).Contents (Elt F) → (⟨S8, .f32⟩ : BufTy).Contents (Elt F)),
    nullary main_cst_39 (constant S_ .f32 0x3F800000#32),
    unary main_cst_39 main_v226 (broadcastInDim S8 ![] bcast_S_S8 : (⟨S_, .f32⟩ : BufTy).Contents (Elt F) → (⟨S8, .f32⟩ : BufTy).Contents (Elt F)),
    binary main_v225 main_v226 main_v227 (maximumf : (⟨S8, .f32⟩ : BufTy).Contents (Elt F) → (⟨S8, .f32⟩ : BufTy).Contents (Elt F) → (⟨S8, .f32⟩ : BufTy).Contents (Elt F)),
    binary main_v223 main_v227 main_v228 (Host.divf : (⟨S8, .f32⟩ : BufTy).Contents (Elt F) → (⟨S8, .f32⟩ : BufTy).Contents (Elt F) → (⟨S8, .f32⟩ : BufTy).Contents (Elt F)),
    nullary main_cst_40 (constant S_ .f32 0x00000000#32),
    binary main_v135 main_cst_40 main_v229 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_41 (constant S_ .f32 0x41000000#32),
    binary main_v229 main_cst_41 main_v230 (Host.divf : (⟨S_, .f32⟩ : BufTy).Contents (Elt F) → (⟨S_, .f32⟩ : BufTy).Contents (Elt F) → (⟨S_, .f32⟩ : BufTy).Contents (Elt F)),
    nullary main_cst_42 (constant S_ .f32 0x00000000#32),
    binary main_v228 main_cst_42 main_v231 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_43 (constant S_ .f32 0x41000000#32),
    binary main_v231 main_cst_43 main_v232 (Host.divf : (⟨S_, .f32⟩ : BufTy).Contents (Elt F) → (⟨S_, .f32⟩ : BufTy).Contents (Elt F) → (⟨S_, .f32⟩ : BufTy).Contents (Elt F)),
    unary main_v230 main_v233 (broadcastInDim S1 ![] bcast_S_S1 : (⟨S_, .f32⟩ : BufTy).Contents (Elt F) → (⟨S1, .f32⟩ : BufTy).Contents (Elt F)),
    unary main_v232 main_v234 (broadcastInDim S1 ![] bcast_S_S1 : (⟨S_, .f32⟩ : BufTy).Contents (Elt F) → (⟨S1, .f32⟩ : BufTy).Contents (Elt F)),
    binary main_v233 main_v234 main_v235 (joinPair (F := F)) ]

/-- The lists of the reference's printed part 0, in order. -/
abbrev part0 : List (HloOp τ sig (Elt F)) := opsArea ++ (opsWidth ++ (opsHeight))

/-- The lists of the reference's printed part 1, in order. -/
abbrev part1 : List (HloOp τ sig (Elt F)) := opsIou ++ (opsArg ++ (opsGather ++ (opsSort ++ (opsTarget))))

/-- The lists of the reference's printed part 2, in order. -/
abbrev part2 : List (HloOp τ sig (Elt F)) := opsWeight ++ (opsEntropy ++ (opsCls ++ (opsAnchor)))

/-- The lists of the reference's printed part 3, in order. -/
abbrev part3 : List (HloOp τ sig (Elt F)) := opsBox ++ (opsDelta)

/-- The lists of the reference's printed part 4, in order. -/
abbrev part4 : List (HloOp τ sig (Elt F)) := opsSmooth ++ (opsMean)

/-- All operations of the reference, in order. -/
abbrev ops : List (HloOp τ sig (Elt F)) := part0 ++ (part1 ++ (part2 ++ (part3 ++ part4)))

set_option maxRecDepth 8192 in
set_option maxHeartbeats 4000000 in
/-- Printed part 0 runs its lists. -/
theorem main_part0_seq (c : Dev nD) : main_part0 (F := F) c = seq part0 := rfl

set_option maxRecDepth 8192 in
set_option maxHeartbeats 4000000 in
/-- Printed part 1 runs its lists. -/
theorem main_part1_seq (c : Dev nD) : main_part1 (F := F) c = seq part1 := rfl

set_option maxRecDepth 8192 in
set_option maxHeartbeats 4000000 in
/-- Printed part 2 runs its lists. -/
theorem main_part2_seq (c : Dev nD) : main_part2 (F := F) c = seq part2 := rfl

set_option maxRecDepth 8192 in
set_option maxHeartbeats 4000000 in
/-- Printed part 3 runs its lists. -/
theorem main_part3_seq (c : Dev nD) : main_part3 (F := F) c = seq part3 := rfl

set_option maxRecDepth 8192 in
set_option maxHeartbeats 4000000 in
/-- Printed part 4 runs its lists. -/
theorem main_part4_seq (c : Dev nD) : main_part4 (F := F) c = seq part4 := rfl

set_option maxRecDepth 8192 in
/-- The reference runs all its operations in order. -/
theorem main_seq (c : Dev nD) : main (F := F) c = seq ops := by
  simp only [ops, seq_append (part0 (F := F)), seq_append (part1 (F := F)), seq_append (part2 (F := F)),
    seq_append (part3 (F := F)), ← main_part0_seq c, ← main_part1_seq c, ← main_part2_seq c, ← main_part3_seq c,
    ← main_part4_seq c]
  rfl

/-- The reference has no scoped buffer. -/
theorem no_scoped_ref : (Finset.univ.filter fun b : Ref sig .tc => b.isScoped) = ∅ := by decide

/-- The reference has no scoped semaphore. -/
theorem no_scoped_sem : (Finset.univ.filter fun sm : SemLoc sig => sm.isScoped .tc) = ∅ := by decide

set_option maxRecDepth 8192 in
/-- The operations of `opsArea` touch the core's buffers only and allocate none. -/
theorem opsArea_plain : ((opsArea : List (HloOp τ sig (Elt F))).Forall fun op => op.bufs ⊆ tcRefs τ sig) ∧
    ((opsArea : List (HloOp τ sig (Elt F))).Forall fun op => op.fresh = ∅) :=
  ⟨⟨reshape_bufs_sub .., nullary_bufs_sub .., nullary_bufs_sub .., unary_bufs_sub .., unary_bufs_sub ..,
      binary_bufs_sub .., unary_bufs_sub .., unary_bufs_sub .., binary_bufs_sub .., unary_bufs_sub ..,
      unary_bufs_sub .., reshape_bufs_sub .., unary_bufs_sub .., reshape_bufs_sub .., binary_bufs_sub ..,
      unary_bufs_sub .., reshape_bufs_sub .., unary_bufs_sub .., reshape_bufs_sub .., binary_bufs_sub ..,
      binary_bufs_sub ..⟩,
    ⟨rfl, rfl, rfl, rfl, rfl, rfl, rfl, rfl, rfl, rfl, rfl, rfl, rfl, rfl, rfl, rfl, rfl, rfl, rfl, rfl,
      rfl⟩⟩

set_option maxRecDepth 8192 in
/-- The operations of `opsWidth` touch the core's buffers only and allocate none. -/
theorem opsWidth_plain : ((opsWidth : List (HloOp τ sig (Elt F))).Forall fun op => op.bufs ⊆ tcRefs τ sig) ∧
    ((opsWidth : List (HloOp τ sig (Elt F))).Forall fun op => op.fresh = ∅) :=
  ⟨⟨unary_bufs_sub .., reshape_bufs_sub .., unary_bufs_sub .., unary_bufs_sub .., reshape_bufs_sub ..,
      unary_bufs_sub .., unary_bufs_sub .., unary_bufs_sub .., unary_bufs_sub .., binary_bufs_sub ..,
      unary_bufs_sub .., reshape_bufs_sub .., unary_bufs_sub .., unary_bufs_sub .., reshape_bufs_sub ..,
      unary_bufs_sub .., unary_bufs_sub .., unary_bufs_sub .., unary_bufs_sub .., binary_bufs_sub ..,
      binary_bufs_sub ..⟩,
    ⟨rfl, rfl, rfl, rfl, rfl, rfl, rfl, rfl, rfl, rfl, rfl, rfl, rfl, rfl, rfl, rfl, rfl, rfl, rfl, rfl,
      rfl⟩⟩

set_option maxRecDepth 8192 in
/-- The operations of `opsHeight` touch the core's buffers only and allocate none. -/
theorem opsHeight_plain : ((opsHeight : List (HloOp τ sig (Elt F))).Forall fun op => op.bufs ⊆ tcRefs τ sig) ∧
    ((opsHeight : List (HloOp τ sig (Elt F))).Forall fun op => op.fresh = ∅) :=
  ⟨⟨unary_bufs_sub .., reshape_bufs_sub .., unary_bufs_sub .., unary_bufs_sub .., reshape_bufs_sub ..,
      unary_bufs_sub .., unary_bufs_sub .., unary_bufs_sub .., unary_bufs_sub .., binary_bufs_sub ..,
      unary_bufs_sub .., reshape_bufs_sub .., unary_bufs_sub .., unary_bufs_sub .., reshape_bufs_sub ..,
      unary_bufs_sub .., unary_bufs_sub .., unary_bufs_sub .., unary_bufs_sub .., binary_bufs_sub ..,
      binary_bufs_sub .., nullary_bufs_sub .., unary_bufs_sub .., unary_bufs_sub .., binary_bufs_sub ..⟩,
    ⟨rfl, rfl, rfl, rfl, rfl, rfl, rfl, rfl, rfl, rfl, rfl, rfl, rfl, rfl, rfl, rfl, rfl, rfl, rfl, rfl,
      rfl, rfl, rfl, rfl, rfl⟩⟩

set_option maxRecDepth 8192 in
/-- The operations of `opsIou` touch the core's buffers only and allocate none. -/
theorem opsIou_plain : ((opsIou : List (HloOp τ sig (Elt F))).Forall fun op => op.bufs ⊆ tcRefs τ sig) ∧
    ((opsIou : List (HloOp τ sig (Elt F))).Forall fun op => op.fresh = ∅) :=
  ⟨⟨nullary_bufs_sub .., unary_bufs_sub .., unary_bufs_sub .., binary_bufs_sub .., unary_bufs_sub ..,
      reshape_bufs_sub .., unary_bufs_sub .., reshape_bufs_sub .., binary_bufs_sub .., unary_bufs_sub ..,
      reshape_bufs_sub .., unary_bufs_sub .., reshape_bufs_sub .., binary_bufs_sub .., binary_bufs_sub ..,
      unary_bufs_sub .., unary_bufs_sub .., unary_bufs_sub .., unary_bufs_sub .., unary_bufs_sub ..,
      binary_bufs_sub .., binary_bufs_sub .., binary_bufs_sub .., nullary_bufs_sub .., unary_bufs_sub ..,
      unary_bufs_sub .., binary_bufs_sub .., binary_bufs_sub .., binary_bufs_sub ..⟩,
    ⟨rfl, rfl, rfl, rfl, rfl, rfl, rfl, rfl, rfl, rfl, rfl, rfl, rfl, rfl, rfl, rfl, rfl, rfl, rfl, rfl,
      rfl, rfl, rfl, rfl, rfl, rfl, rfl, rfl, rfl⟩⟩

set_option maxRecDepth 8192 in
/-- The operations of `opsArg` touch the core's buffers only and allocate none. -/
theorem opsArg_plain : ((opsArg : List (HloOp τ sig (Elt F))).Forall fun op => op.bufs ⊆ tcRefs τ sig) ∧
    ((opsArg : List (HloOp τ sig (Elt F))).Forall fun op => op.fresh = ∅) :=
  ⟨⟨nullary_bufs_sub .., binary_bufs_sub .., nullary_bufs_sub .., nullary_bufs_sub .., nullary_bufs_sub
      .., quaternary_bufs_sub .., quaternary_bufs_sub ..⟩,
    ⟨rfl, rfl, rfl, rfl, rfl, rfl, rfl⟩⟩

set_option maxRecDepth 8192 in
/-- The operations of `opsGather` touch the core's buffers only and allocate none. -/
theorem opsGather_plain : ((opsGather : List (HloOp τ sig (Elt F))).Forall fun op => op.bufs ⊆ tcRefs τ sig) ∧
    ((opsGather : List (HloOp τ sig (Elt F))).Forall fun op => op.fresh = ∅) :=
  ⟨⟨nullary_bufs_sub .., unary_bufs_sub .., binary_bufs_sub .., nullary_bufs_sub .., unary_bufs_sub ..,
      binary_bufs_sub .., ternary_bufs_sub .., unary_bufs_sub .., binary_bufs_sub ..⟩,
    ⟨rfl, rfl, rfl, rfl, rfl, rfl, rfl, rfl, rfl⟩⟩

set_option maxRecDepth 8192 in
/-- The operations of `opsSort` touch the core's buffers only and allocate none. -/
theorem opsSort_plain : ((opsSort : List (HloOp τ sig (Elt F))).Forall fun op => op.bufs ⊆ tcRefs τ sig) ∧
    ((opsSort : List (HloOp τ sig (Elt F))).Forall fun op => op.fresh = ∅) :=
  ⟨⟨nullary_bufs_sub .., unary_bufs_sub .., binary_bufs_sub .., nullary_bufs_sub .., unary_bufs_sub ..,
      binary_bufs_sub .., unary_bufs_sub .., binary_bufs_sub .., unary_bufs_sub .., nullary_bufs_sub ..,
      binary_bufs_sub .., unary_bufs_sub ..⟩,
    ⟨rfl, rfl, rfl, rfl, rfl, rfl, rfl, rfl, rfl, rfl, rfl, rfl⟩⟩

set_option maxRecDepth 8192 in
/-- The operations of `opsTarget` touch the core's buffers only and allocate none. -/
theorem opsTarget_plain : ((opsTarget : List (HloOp τ sig (Elt F))).Forall fun op => op.bufs ⊆ tcRefs τ sig) ∧
    ((opsTarget : List (HloOp τ sig (Elt F))).Forall fun op => op.fresh = ∅) :=
  ⟨⟨unary_bufs_sub .., reshape_bufs_sub .., unary_bufs_sub .., unary_bufs_sub .., nullary_bufs_sub ..,
      unary_bufs_sub .., unary_bufs_sub .., unary_bufs_sub .., binary_bufs_sub .., unary_bufs_sub ..,
      unary_bufs_sub .., nullary_bufs_sub .., unary_bufs_sub .., unary_bufs_sub .., unary_bufs_sub ..,
      unary_bufs_sub .., ternary_bufs_sub .., unary_bufs_sub .., nullary_bufs_sub .., unary_bufs_sub ..,
      unary_bufs_sub .., unary_bufs_sub .., unary_bufs_sub .., ternary_bufs_sub .., nullary_bufs_sub ..⟩,
    ⟨rfl, rfl, rfl, rfl, rfl, rfl, rfl, rfl, rfl, rfl, rfl, rfl, rfl, rfl, rfl, rfl, rfl, rfl, rfl, rfl,
      rfl, rfl, rfl, rfl, rfl⟩⟩

set_option maxRecDepth 8192 in
/-- The operations of `opsWeight` touch the core's buffers only and allocate none. -/
theorem opsWeight_plain : ((opsWeight : List (HloOp τ sig (Elt F))).Forall fun op => op.bufs ⊆ tcRefs τ sig) ∧
    ((opsWeight : List (HloOp τ sig (Elt F))).Forall fun op => op.fresh = ∅) :=
  ⟨⟨unary_bufs_sub .., binary_bufs_sub .., nullary_bufs_sub .., nullary_bufs_sub .., unary_bufs_sub ..,
      unary_bufs_sub .., unary_bufs_sub .., unary_bufs_sub .., ternary_bufs_sub .., nullary_bufs_sub ..,
      unary_bufs_sub .., binary_bufs_sub .., nullary_bufs_sub .., unary_bufs_sub .., binary_bufs_sub ..,
      ternary_bufs_sub .., nullary_bufs_sub .., unary_bufs_sub .., binary_bufs_sub .., unary_bufs_sub ..,
      binary_bufs_sub ..⟩,
    ⟨rfl, rfl, rfl, rfl, rfl, rfl, rfl, rfl, rfl, rfl, rfl, rfl, rfl, rfl, rfl, rfl, rfl, rfl, rfl, rfl,
      rfl⟩⟩

set_option maxRecDepth 8192 in
/-- The operations of `opsEntropy` touch the core's buffers only and allocate none. -/
theorem opsEntropy_plain : ((opsEntropy : List (HloOp τ sig (Elt F))).Forall fun op => op.bufs ⊆ tcRefs τ sig) ∧
    ((opsEntropy : List (HloOp τ sig (Elt F))).Forall fun op => op.fresh = ∅) :=
  ⟨⟨unary_bufs_sub .., binary_bufs_sub .., nullary_bufs_sub .., unary_bufs_sub .., binary_bufs_sub ..,
      nullary_bufs_sub .., unary_bufs_sub .., binary_bufs_sub .., unary_bufs_sub .., binary_bufs_sub ..,
      binary_bufs_sub .., unary_bufs_sub .., nullary_bufs_sub .., unary_bufs_sub .., binary_bufs_sub ..,
      binary_bufs_sub .., nullary_bufs_sub .., unary_bufs_sub .., unary_bufs_sub .., unary_bufs_sub ..,
      ternary_bufs_sub ..⟩,
    ⟨rfl, rfl, rfl, rfl, rfl, rfl, rfl, rfl, rfl, rfl, rfl, rfl, rfl, rfl, rfl, rfl, rfl, rfl, rfl, rfl,
      rfl⟩⟩

set_option maxRecDepth 8192 in
/-- The operations of `opsCls` touch the core's buffers only and allocate none. -/
theorem opsCls_plain : ((opsCls : List (HloOp τ sig (Elt F))).Forall fun op => op.bufs ⊆ tcRefs τ sig) ∧
    ((opsCls : List (HloOp τ sig (Elt F))).Forall fun op => op.fresh = ∅) :=
  ⟨⟨nullary_bufs_sub .., binary_bufs_sub .., nullary_bufs_sub .., unary_bufs_sub .., binary_bufs_sub ..,
      binary_bufs_sub ..⟩,
    ⟨rfl, rfl, rfl, rfl, rfl, rfl⟩⟩

set_option maxRecDepth 8192 in
/-- The operations of `opsAnchor` touch the core's buffers only and allocate none. -/
theorem opsAnchor_plain : ((opsAnchor : List (HloOp τ sig (Elt F))).Forall fun op => op.bufs ⊆ tcRefs τ sig) ∧
    ((opsAnchor : List (HloOp τ sig (Elt F))).Forall fun op => op.fresh = ∅) :=
  ⟨⟨unary_bufs_sub .., reshape_bufs_sub .., unary_bufs_sub .., reshape_bufs_sub .., binary_bufs_sub ..,
      unary_bufs_sub .., reshape_bufs_sub .., unary_bufs_sub .., reshape_bufs_sub .., binary_bufs_sub ..,
      unary_bufs_sub .., reshape_bufs_sub .., nullary_bufs_sub .., unary_bufs_sub .., binary_bufs_sub ..,
      binary_bufs_sub .., unary_bufs_sub .., reshape_bufs_sub .., nullary_bufs_sub ..⟩,
    ⟨rfl, rfl, rfl, rfl, rfl, rfl, rfl, rfl, rfl, rfl, rfl, rfl, rfl, rfl, rfl, rfl, rfl, rfl, rfl⟩⟩

set_option maxRecDepth 8192 in
/-- The operations of `opsBox` touch the core's buffers only and allocate none. -/
theorem opsBox_plain : ((opsBox : List (HloOp τ sig (Elt F))).Forall fun op => op.bufs ⊆ tcRefs τ sig) ∧
    ((opsBox : List (HloOp τ sig (Elt F))).Forall fun op => op.fresh = ∅) :=
  ⟨⟨unary_bufs_sub .., binary_bufs_sub .., binary_bufs_sub .., unary_bufs_sub .., reshape_bufs_sub ..,
      unary_bufs_sub .., reshape_bufs_sub .., binary_bufs_sub .., unary_bufs_sub .., reshape_bufs_sub ..,
      unary_bufs_sub .., reshape_bufs_sub .., binary_bufs_sub .., unary_bufs_sub .., reshape_bufs_sub ..,
      nullary_bufs_sub .., unary_bufs_sub .., binary_bufs_sub .., binary_bufs_sub .., unary_bufs_sub ..,
      reshape_bufs_sub .., nullary_bufs_sub .., unary_bufs_sub .., binary_bufs_sub .., binary_bufs_sub ..,
      nullary_bufs_sub .., unary_bufs_sub .., unary_bufs_sub .., binary_bufs_sub .., nullary_bufs_sub ..⟩,
    ⟨rfl, rfl, rfl, rfl, rfl, rfl, rfl, rfl, rfl, rfl, rfl, rfl, rfl, rfl, rfl, rfl, rfl, rfl, rfl, rfl,
      rfl, rfl, rfl, rfl, rfl, rfl, rfl, rfl, rfl, rfl⟩⟩

set_option maxRecDepth 8192 in
/-- The operations of `opsDelta` touch the core's buffers only and allocate none. -/
theorem opsDelta_plain : ((opsDelta : List (HloOp τ sig (Elt F))).Forall fun op => op.bufs ⊆ tcRefs τ sig) ∧
    ((opsDelta : List (HloOp τ sig (Elt F))).Forall fun op => op.fresh = ∅) :=
  ⟨⟨unary_bufs_sub .., unary_bufs_sub .., binary_bufs_sub .., unary_bufs_sub .., unary_bufs_sub ..,
      binary_bufs_sub .., unary_bufs_sub .., unary_bufs_sub .., binary_bufs_sub .., unary_bufs_sub ..,
      unary_bufs_sub .., binary_bufs_sub .., unary_bufs_sub .., unary_bufs_sub .., binary_bufs_sub ..,
      unary_bufs_sub .., unary_bufs_sub .., binary_bufs_sub .., unary_bufs_sub .., unary_bufs_sub ..,
      unary_bufs_sub .., binary_bufs_sub .., unary_bufs_sub .., nullary_bufs_sub .., unary_bufs_sub ..,
      binary_bufs_sub .., nullary_bufs_sub .., unary_bufs_sub .., binary_bufs_sub .., nullary_bufs_sub ..,
      unary_bufs_sub .., binary_bufs_sub .., nullary_bufs_sub .., unary_bufs_sub ..⟩,
    ⟨rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl⟩⟩

set_option maxRecDepth 8192 in
/-- The operations of `opsSmooth` touch the core's buffers only and allocate none. -/
theorem opsSmooth_plain : ((opsSmooth : List (HloOp τ sig (Elt F))).Forall fun op => op.bufs ⊆ tcRefs τ sig) ∧
    ((opsSmooth : List (HloOp τ sig (Elt F))).Forall fun op => op.fresh = ∅) :=
  ⟨⟨binary_bufs_sub .., unary_bufs_sub .., unary_bufs_sub .., unary_bufs_sub .., unary_bufs_sub ..,
      nary_bufs_sub .., binary_bufs_sub .., unary_bufs_sub .., nullary_bufs_sub .., unary_bufs_sub ..,
      binary_bufs_sub .., nullary_bufs_sub .., unary_bufs_sub .., binary_bufs_sub .., binary_bufs_sub ..,
      nullary_bufs_sub .., unary_bufs_sub .., binary_bufs_sub .., ternary_bufs_sub .., unary_bufs_sub ..,
      nullary_bufs_sub .., unary_bufs_sub .., unary_bufs_sub .., unary_bufs_sub .., unary_bufs_sub ..,
      ternary_bufs_sub ..⟩,
    ⟨rfl, rfl, rfl, rfl, rfl, rfl, rfl, rfl, rfl, rfl, rfl, rfl, rfl, rfl, rfl, rfl, rfl, rfl, rfl, rfl,
      rfl, rfl, rfl, rfl, rfl, rfl⟩⟩

set_option maxRecDepth 8192 in
/-- The operations of `opsMean` touch the core's buffers only and allocate none. -/
theorem opsMean_plain : ((opsMean : List (HloOp τ sig (Elt F))).Forall fun op => op.bufs ⊆ tcRefs τ sig) ∧
    ((opsMean : List (HloOp τ sig (Elt F))).Forall fun op => op.fresh = ∅) :=
  ⟨⟨nullary_bufs_sub .., binary_bufs_sub .., nullary_bufs_sub .., unary_bufs_sub .., binary_bufs_sub ..,
      nullary_bufs_sub .., unary_bufs_sub .., binary_bufs_sub .., binary_bufs_sub .., nullary_bufs_sub ..,
      binary_bufs_sub .., nullary_bufs_sub .., binary_bufs_sub .., nullary_bufs_sub .., binary_bufs_sub
      .., nullary_bufs_sub .., binary_bufs_sub .., unary_bufs_sub .., unary_bufs_sub .., binary_bufs_sub
      ..⟩,
    ⟨rfl, rfl, rfl, rfl, rfl, rfl, rfl, rfl, rfl, rfl, rfl, rfl, rfl, rfl, rfl, rfl, rfl, rfl, rfl, rfl⟩⟩

/-- Every operation of the reference is in one of the lists. -/
theorem mem_ops {op : HloOp τ sig (Elt F)} (h : op ∈ (ops : List (HloOp τ sig (Elt F)))) :
    op.bufs ⊆ tcRefs τ sig ∧ op.fresh = ∅ := by
  simp only [ops, part0, part1, part2, part3, part4, List.mem_append, or_assoc] at h
  rcases h with h | h | h | h | h | h | h | h | h | h | h | h | h | h | h | h
  · exact ⟨List.forall_iff_forall_mem.mp opsArea_plain.1 op h, List.forall_iff_forall_mem.mp opsArea_plain.2 op h⟩
  · exact ⟨List.forall_iff_forall_mem.mp opsWidth_plain.1 op h, List.forall_iff_forall_mem.mp opsWidth_plain.2 op h⟩
  · exact ⟨List.forall_iff_forall_mem.mp opsHeight_plain.1 op h, List.forall_iff_forall_mem.mp opsHeight_plain.2 op h⟩
  · exact ⟨List.forall_iff_forall_mem.mp opsIou_plain.1 op h, List.forall_iff_forall_mem.mp opsIou_plain.2 op h⟩
  · exact ⟨List.forall_iff_forall_mem.mp opsArg_plain.1 op h, List.forall_iff_forall_mem.mp opsArg_plain.2 op h⟩
  · exact ⟨List.forall_iff_forall_mem.mp opsGather_plain.1 op h, List.forall_iff_forall_mem.mp opsGather_plain.2 op h⟩
  · exact ⟨List.forall_iff_forall_mem.mp opsSort_plain.1 op h, List.forall_iff_forall_mem.mp opsSort_plain.2 op h⟩
  · exact ⟨List.forall_iff_forall_mem.mp opsTarget_plain.1 op h, List.forall_iff_forall_mem.mp opsTarget_plain.2 op h⟩
  · exact ⟨List.forall_iff_forall_mem.mp opsWeight_plain.1 op h, List.forall_iff_forall_mem.mp opsWeight_plain.2 op h⟩
  · exact ⟨List.forall_iff_forall_mem.mp opsEntropy_plain.1 op h, List.forall_iff_forall_mem.mp opsEntropy_plain.2 op h⟩
  · exact ⟨List.forall_iff_forall_mem.mp opsCls_plain.1 op h, List.forall_iff_forall_mem.mp opsCls_plain.2 op h⟩
  · exact ⟨List.forall_iff_forall_mem.mp opsAnchor_plain.1 op h, List.forall_iff_forall_mem.mp opsAnchor_plain.2 op h⟩
  · exact ⟨List.forall_iff_forall_mem.mp opsBox_plain.1 op h, List.forall_iff_forall_mem.mp opsBox_plain.2 op h⟩
  · exact ⟨List.forall_iff_forall_mem.mp opsDelta_plain.1 op h, List.forall_iff_forall_mem.mp opsDelta_plain.2 op h⟩
  · exact ⟨List.forall_iff_forall_mem.mp opsSmooth_plain.1 op h, List.forall_iff_forall_mem.mp opsSmooth_plain.2 op h⟩
  · exact ⟨List.forall_iff_forall_mem.mp opsMean_plain.1 op h, List.forall_iff_forall_mem.mp opsMean_plain.2 op h⟩

/-- From any launch memory with zero counters every execution of the reference ends with each buffer at what the
operations compute in order. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq no_scoped_ref no_scoped_sem defs main (fun _ => ops) main_seq
    (fun _ => List.forall_iff_forall_mem.mpr fun _ h => (mem_ops h).1) m ρ fun _ _ h => (mem_ops h).2

end Cert.ReferenceIdeal.Focal

end
-- ==== Proof.RefArgmax.lean ====
module

public import proofs.«01_k».proof.Proof.RefOps
public import proofs.«01_k».proof.Proof.Loss

/-!
The reference's arg-max over the boxes is the first index at which the largest ratio stands, and its gather reads the
row of that index.
-/

@[expose] public section

noncomputable section

namespace Cert.ReferenceIdeal.Focal

open Cert.ReferenceIdeal Cert.ReferenceIdeal.Gen Cert.FocalLoss Idealize.ShloMosaic

/-- What the arg-max has found after the pairs seen so far: a value no pair exceeds, at an index that no pair of the same
value precedes, itself the starting pair or one of the pairs seen. -/
def Found (z : EReal × BitVec 32) (L : List (EReal × BitVec 32)) (r : EReal × BitVec 32) : Prop :=
  (r = z ∨ r ∈ L) ∧ z.1 ≤ r.1 ∧ (z.1 = r.1 → r.2.toInt ≤ z.2.toInt)
    ∧ ∀ q ∈ L, q.1 ≤ r.1 ∧ (q.1 = r.1 → r.2.toInt ≤ q.2.toInt)

/-- One step of the arg-max takes the pair of the larger value, and of two equal values the smaller index. -/
theorem step_eq (x y : EReal × BitVec 32) :
    (reducer_argmax_f32_i32 (F := Ideal) x y = x ∧ y.1 ≤ x.1 ∧ (y.1 = x.1 → x.2.toInt ≤ y.2.toInt))
    ∨ (reducer_argmax_f32_i32 (F := Ideal) x y = y ∧ x.1 ≤ y.1 ∧ (x.1 = y.1 → y.2.toInt ≤ x.2.toInt)) := by
  obtain ⟨a, i⟩ := x
  obtain ⟨b, j⟩ := y
  have hr : reducer_argmax_f32_i32 (F := Ideal) (a, i) (b, j)
      = (Scalar.select (IntOp.ori (Ideal.cmp .ogt a b) (Ideal.cmp .une a a)) a b,
        Scalar.select (IntOp.ori (IntOp.ori (Ideal.cmp .ogt a b) (Ideal.cmp .une a a))
          (IntOp.andi (Ideal.cmp .oeq a b) (IntOp.cmpi .slt i j))) i j) := rfl
  rw [hr]
  rcases lt_trichotomy a b with h | h | h
  · right
    refine ⟨?_, h.le, fun e => absurd e h.ne⟩
    simp [Ideal.cmp, IntOp.ori, IntOp.andi, IntOp.cmpi, Scalar.select, h.not_gt, h.ne]
  · subst h
    by_cases hs : i.slt j
    · left
      refine ⟨?_, le_refl _, fun _ => (BitVec.slt_iff_toInt_lt.mp hs).le⟩
      simp [Ideal.cmp, IntOp.ori, IntOp.andi, IntOp.cmpi, Scalar.select, hs]
    · right
      refine ⟨?_, le_refl _, fun _ => not_lt.mp fun hlt => hs (BitVec.slt_iff_toInt_lt.mpr hlt)⟩
      simp [Ideal.cmp, IntOp.ori, IntOp.andi, IntOp.cmpi, Scalar.select, hs]
  · left
    refine ⟨?_, h.le, fun e => absurd e h.ne⟩
    simp [Ideal.cmp, IntOp.ori, IntOp.andi, IntOp.cmpi, Scalar.select, h, h.ne']

/-- The arg-max over a list has found its largest value at the smallest index. -/
theorem found_foldl (L : List (EReal × BitVec 32)) (z : EReal × BitVec 32) :
    Found z L (L.foldl (reducer_argmax_f32_i32 (F := Ideal)) z) := by
  induction L generalizing z with
  | nil => exact ⟨.inl rfl, le_refl _, fun _ => le_refl _, by simp⟩
  | cons p L ih =>
    obtain ⟨hm, h1, h2, h3⟩ := ih (reducer_argmax_f32_i32 (F := Ideal) z p)
    rw [List.foldl_cons]
    generalize hR : L.foldl (reducer_argmax_f32_i32 (F := Ideal)) (reducer_argmax_f32_i32 (F := Ideal) z p) = R at *
    rcases step_eq z p with ⟨e, hv, hi⟩ | ⟨e, hv, hi⟩ <;> rw [e] at hm h1 h2
    · refine ⟨hm.imp_right fun h => List.mem_cons_of_mem _ h, h1, h2, fun q hq => ?_⟩
      rcases List.mem_cons.mp hq with rfl | hq
      · refine ⟨hv.trans h1, fun eq => ?_⟩
        have hz : z.1 = R.1 := le_antisymm h1 (eq ▸ hv)
        exact (h2 hz).trans (hi (eq.trans hz.symm))
      · exact h3 q hq
    · refine ⟨?_, hv.trans h1, fun eq => ?_, fun q hq => ?_⟩
      · rcases hm with rfl | hm
        · exact .inr List.mem_cons_self
        · exact .inr (List.mem_cons_of_mem _ hm)
      · have hp : p.1 = R.1 := le_antisymm h1 (eq ▸ hv)
        exact (h2 hp).trans (hi (eq.trans hp.symm))
      · rcases List.mem_cons.mp hq with rfl | hq
        · exact ⟨h1, h2⟩
        · exact h3 q hq

/-- An index below 32 as a 32-bit integer, read back. -/
theorem toInt_index (k : Fin 32) : (BitVec.ofNat 32 k.val).toInt = k.val := by
  revert k; decide

/-- The reference's arg-max, read at an image and an anchor: the first index of the largest ratio. -/
theorem argmax_read (x : FVec Ideal S8x20000x32 .f32) (b : Fin 8) (a : Fin 20000) :
    (Host.argReduce reducer_argmax_f32_i32 x (iotaInDim S8x20000x32 32 2) (constant S_ .f32 0xFF800000#32)
        (constantI S_ 32 0#32) reducesTo_S8x20000x32_S8x20000_d2 h_S_ (ix2 b a)).2
      = BitVec.ofNat 32 (first fun k => x (ix3 b a k)).val := by
  rw [Ideal.argReduce_eq_reduce2, Host.reduce2_eq_foldl_fiber]
  have hz : (constant (F := Ideal) S_ .f32 0xFF800000#32 (Shape.Idx.first h_S_), constantI S_ 32 0#32 (Shape.Idx.first h_S_))
      = ((⊥ : EReal), 0#32) := by
    refine Prod.ext ?_ rfl
    show Ideal.ofBits .f32 0xFF800000#32 = ⊥
    simp [Ideal.ofBits, Ideal.ieee]
  rw [hz]
  set u : Fin 32 → EReal := fun k => x (ix3 b a k) with hu
  set L := Host.argReduceFiber x (iotaInDim S8x20000x32 32 2) reducesTo_S8x20000x32_S8x20000_d2 (ix2 b a) with hL
  have mem : ∀ p : EReal × BitVec 32, p ∈ L ↔ ∃ k : Fin 32, p = (u k, BitVec.ofNat 32 k.val) := by
    intro p
    rw [hL, Host.argReduceFiber, List.mem_map]
    constructor
    · rintro ⟨n, hn, rfl⟩
      have hd := of_decide_eq_true (List.mem_filter.mp hn).2
      obtain ⟨k, hk⟩ := (reducesTo_S8x20000x32_S8x20000_d2.fiber_r3_a2 _ _).mp hd
      exact ⟨k, by rw [← hk]; rfl⟩
    · rintro ⟨k, rfl⟩
      refine ⟨S8x20000x32.rowMajor (ix3 b a k), List.mem_filter.mpr ⟨List.mem_finRange _, decide_eq_true ?_⟩, ?_⟩
      · rw [Equiv.symm_apply_apply]
        exact (reducesTo_S8x20000x32_S8x20000_d2.fiber_r3_a2 _ _).mpr ⟨k, rfl⟩
      · rw [Equiv.symm_apply_apply]; rfl
  obtain ⟨hm, h1, h2, h3⟩ := found_foldl L (⊥, 0#32)
  generalize L.foldl (reducer_argmax_f32_i32 (F := Ideal)) (⊥, 0#32) = R at *
  have hle : ∀ k, u k ≤ R.1 := fun k => (h3 _ ((mem _).mpr ⟨k, rfl⟩)).1
  have hix : ∀ k, u k = R.1 → R.2.toInt ≤ (k.val : ℤ) := fun k hk => by
    have := (h3 _ ((mem _).mpr ⟨k, rfl⟩)).2 hk
    rwa [toInt_index] at this
  rcases hm with rfl | hm
  · have hbot : ∀ k, u k = ⊥ := fun k => le_bot_iff.mp (hle k)
    have h0 : (0 : Fin 32) = first u :=
      eq_first u 0 ((hbot 0).trans ((hbot (first u)).symm.trans (first_eq u))) fun l _ => Fin.zero_le l
    rw [← h0]; rfl
  · obtain ⟨k, rfl⟩ := (mem _).mp hm
    have hp : u k = peak u := le_antisymm (le_peak u k) (first_eq u ▸ hle (first u))
    rw [← eq_first u k hp fun l hl => ?_]
    have := hix l (hl.trans hp.symm)
    rw [toInt_index] at this
    exact_mod_cast this

/-- The start index of the gather at an image and an anchor. -/
abbrev rowIdx (b : Fin 8) (a : Fin 20000) : S8x20000x1.Idx := ix3 b a 0

/-- The gather of one row per image and anchor, read at a column: the row is the start index, read signed and clamped. -/
theorem gather_read (x : FVec Ideal S8x32x11 .f32) (idx : IVec S8x20000x1 32) (b : Fin 8) (a : Fin 20000) (e : Fin 11) (k : Fin 32)
    (hk : idx (rowIdx b a) = BitVec.ofNat 32 k.val) :
    Host.gather gather_S8x32x11_S8x20000x1_S8x20000x11_2_1_0_0_1_2_1111 x idx (ix3 b a e) = x (ix3 b k e) := by
  unfold Host.gather
  congr 1
  funext d
  refine Fin.ext ?_
  set D := gather_S8x32x11_S8x20000x1_S8x20000x11_2_1_0_0_1_2_1111 with hD
  show D.start (ix3 b a e) idx d + D.batchCoord (ix3 b a e) d + D.offCoord (ix3 b a e) d = _
  have hd : d = 0 ∨ d = 1 ∨ d = 2 := by
    match d with
    | ⟨0, _⟩ => exact .inl rfl
    | ⟨1, _⟩ => exact .inr (.inl rfl)
    | ⟨2, _⟩ => exact .inr (.inr rfl)
  rcases hd with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ D.operandBatchingDims from List.mem_singleton.mpr rfl)]
    rfl
  · rw [GatherDims.batchCoord_eq_zero _ _ _ (fun h => by simp [hD, gather_S8x32x11_S8x20000x1_S8x20000x11_2_1_0_0_1_2_1111] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ D.startIndexMap from List.mem_singleton.mpr rfl)]
    have hsi : D.siIdx (ix3 b a e) ⟨List.idxOf (1 : Fin 3) D.startIndexMap,
        List.idxOf_lt_length_iff.2 (List.mem_singleton.mpr rfl)⟩ = rowIdx b a := by
      funext c; refine Fin.ext ?_
      match c with
      | ⟨0, _⟩ => rfl
      | ⟨1, _⟩ => rfl
      | ⟨2, _⟩ => rfl
    rw [hsi, hk, toInt_index]
    show min k.val 31 = k.val
    omega
  · have h0 : D.start (ix3 b a e) idx 2 = 0 := by
      unfold GatherDims.start
      exact dif_neg (by simp [hD, gather_S8x32x11_S8x20000x1_S8x20000x11_2_1_0_0_1_2_1111])
    rw [h0, GatherDims.batchCoord_eq_zero _ _ _ (fun h => by simp [hD, gather_S8x32x11_S8x20000x1_S8x20000x11_2_1_0_0_1_2_1111] at h)]
    simp only [Nat.zero_add]
    rfl

end Cert.ReferenceIdeal.Focal

end
-- ==== Proof.RefOverlap.lean ====
module

public import proofs.«01_k».proof.Proof.RefArgmax
public import Idealize.ShloMosaic.Lib.StableHlo.RunClose
public import Idealize.ShloMosaic.Lib.IndicatorCount

/-!
What the reference's first operations compute, read at an image, an anchor and a box: the overlap ratios, the box each
anchor is assigned to, which anchors are positive and which ignored, how many are positive, and the targets.
-/

@[expose] public section

noncomputable section

namespace Cert.ReferenceIdeal.Focal

open Cert.ReferenceIdeal Cert.ReferenceIdeal.Gen Cert.FocalLoss Idealize.ShloMosaic Idealize.ShloMosaic.TcCoe Idealize.SL.Sem
  Idealize.ShloMosaic.StableHlo

/-- The contents of the reference's buffers. -/
abbrev Contents := Valuation τ sig (Elt Ideal)

/-- What a buffer holds. -/
abbrev at' (V : Contents) (r : Ref sig .tc) : r.ty.Contents (Elt Ideal) := V (Proc.devRef .tc r)

variable (V : Contents) (A : Fin 20000 → Anchor) (X : Fin 8 → Fin 32 → Box)

/-- Clipped probabilities, anchors as rows, corners and areas of the boxes. -/
theorem area_stage (h3 : ∀ a k, (at' V main_arg3 : FVec Ideal S1x20000x4 .f32) (ix3 0 a k) = A a k)
    (h4 : ∀ b k e, (at' V main_arg4 : FVec Ideal S8x32x11 .f32) (ix3 b k e) = X b k e) :
    (∀ a k, (at' (after opsArea V) main_v0 : FVec Ideal S20000x4 .f32) (ix2 a k) = A a k)
    ∧ (∀ b a e, (at' (after opsArea V) main_v1 : FVec Ideal S8x20000x80 .f32) (ix3 b a e)
        = min (lit 0x3F7FF972#32) (max (lit 0x38D1B717#32) ((at' V main_arg0 : FVec Ideal S8x20000x80 .f32) (ix3 b a e))))
    ∧ (∀ b k (e : Fin 4), (at' (after opsArea V) main_v2 : FVec Ideal S8x32x4 .f32) (ix3 b k e) = X b k ⟨e.val, by omega⟩)
    ∧ (∀ b k, (at' (after opsArea V) main_v13 : FVec Ideal S8x32 .f32) (ix2 b k) = (X b k 2 - X b k 0) * (X b k 3 - X b k 1))
    ∧ at' (after opsArea V) main_arg1 = at' V main_arg1 ∧ at' (after opsArea V) main_arg4 = at' V main_arg4 := by
  refine ⟨fun a k => ?_, fun b a e => ?_, fun b k e => ?_, fun b k => ?_, ?_, ?_⟩
  all_goals
    simp only [at', opsArea, TRef.unary, TRef.binary, TRef.toBuf, TRef.ofBuf, cast_eq]
    after_results_simp
  all_goals
    try simp only [id]
    pointwise
  · exact h3 a k
  · exact h4 b k _
  · simp only [h4]

/-- Widths of the intersections before the cut at zero. -/
theorem width_stage (h0 : ∀ a k, (at' V main_v0 : FVec Ideal S20000x4 .f32) (ix2 a k) = A a k)
    (h2 : ∀ b k (e : Fin 4), (at' V main_v2 : FVec Ideal S8x32x4 .f32) (ix3 b k e) = X b k ⟨e.val, by omega⟩) :
    (∀ b a k, (at' (after opsWidth V) main_v34 : FVec Ideal S8x20000x32 .f32) (ix3 b a k)
        = min (A a 2) (X b k 2) - max (A a 0) (X b k 0))
    ∧ at' (after opsWidth V) main_v0 = at' V main_v0 ∧ at' (after opsWidth V) main_v1 = at' V main_v1
    ∧ at' (after opsWidth V) main_v2 = at' V main_v2 ∧ at' (after opsWidth V) main_v13 = at' V main_v13
    ∧ at' (after opsWidth V) main_arg1 = at' V main_arg1 ∧ at' (after opsWidth V) main_arg4 = at' V main_arg4 := by
  refine ⟨fun b a k => ?_, ?_, ?_, ?_, ?_, ?_, ?_⟩
  all_goals
    simp only [at', opsWidth]
    after_results_simp
  pointwise
  simp only [h0, h2]
  rfl

/-- Heights of the intersections before the cut at zero, and widths after it. -/
theorem height_stage (h0 : ∀ a k, (at' V main_v0 : FVec Ideal S20000x4 .f32) (ix2 a k) = A a k)
    (h2 : ∀ b k (e : Fin 4), (at' V main_v2 : FVec Ideal S8x32x4 .f32) (ix3 b k e) = X b k ⟨e.val, by omega⟩)
    (h34 : ∀ b a k, (at' V main_v34 : FVec Ideal S8x20000x32 .f32) (ix3 b a k) = min (A a 2) (X b k 2) - max (A a 0) (X b k 0)) :
    (∀ b a k, (at' (after opsHeight V) main_v55 : FVec Ideal S8x20000x32 .f32) (ix3 b a k)
        = min (A a 3) (X b k 3) - max (A a 1) (X b k 1))
    ∧ (∀ b a k, (at' (after opsHeight V) main_v56 : FVec Ideal S8x20000x32 .f32) (ix3 b a k)
        = max 0 (min (A a 2) (X b k 2) - max (A a 0) (X b k 0)))
    ∧ at' (after opsHeight V) main_v0 = at' V main_v0 ∧ at' (after opsHeight V) main_v1 = at' V main_v1
    ∧ at' (after opsHeight V) main_v13 = at' V main_v13
    ∧ at' (after opsHeight V) main_arg1 = at' V main_arg1 ∧ at' (after opsHeight V) main_arg4 = at' V main_arg4 := by
  refine ⟨fun b a k => ?_, fun b a k => ?_, ?_, ?_, ?_, ?_, ?_⟩
  all_goals
    simp only [at', opsHeight, TRef.unary, TRef.binary, TRef.toBuf, TRef.ofBuf, cast_eq]
    after_results_simp
  all_goals
    try simp only [id]
    pointwise
  · simp only [h0, h2]
    rfl
  · simp only [h34]

/-- The overlap ratios. -/
theorem iou_stage (h0 : ∀ a k, (at' V main_v0 : FVec Ideal S20000x4 .f32) (ix2 a k) = A a k)
    (h13 : ∀ b k, (at' V main_v13 : FVec Ideal S8x32 .f32) (ix2 b k) = (X b k 2 - X b k 0) * (X b k 3 - X b k 1))
    (h55 : ∀ b a k, (at' V main_v55 : FVec Ideal S8x20000x32 .f32) (ix3 b a k) = min (A a 3) (X b k 3) - max (A a 1) (X b k 1))
    (h56 : ∀ b a k, (at' V main_v56 : FVec Ideal S8x20000x32 .f32) (ix3 b a k) = max 0 (min (A a 2) (X b k 2) - max (A a 0) (X b k 0))) :
    (∀ b a k, (at' (after opsIou V) main_v79 : FVec Ideal S8x20000x32 .f32) (ix3 b a k) = ratios (A a) (X b) k)
    ∧ at' (after opsIou V) main_v0 = at' V main_v0 ∧ at' (after opsIou V) main_v1 = at' V main_v1
    ∧ at' (after opsIou V) main_arg1 = at' V main_arg1 ∧ at' (after opsIou V) main_arg4 = at' V main_arg4 := by
  refine ⟨fun b a k => ?_, ?_, ?_, ?_, ?_⟩
  all_goals
    simp only [at', opsIou, TRef.unary, TRef.binary, TRef.toBuf, TRef.ofBuf, cast_eq]
    after_results_simp
  simp only [id]
  pointwise
  simp only [h0, h13, h55, h56]
  rfl

/-- The least extended real as a literal. -/
theorem lit_bot : lit 0xFF800000#32 = ⊥ := by simp [lit, Ideal.ofBits, Ideal.ieee]

/-- The largest ratio of each anchor, and the first box at which it stands. -/
theorem arg_stage (h79 : ∀ b a k, (at' V main_v79 : FVec Ideal S8x20000x32 .f32) (ix3 b a k) = ratios (A a) (X b) k) :
    (∀ b a, (at' (after opsArg V) main_v80 : FVec Ideal S8x20000 .f32) (ix2 b a) = peak (ratios (A a) (X b)))
    ∧ (∀ b a, (at' (after opsArg V) main_v81 : IVec S8x20000 32) (ix2 b a) = BitVec.ofNat 32 (first (ratios (A a) (X b))).val)
    ∧ at' (after opsArg V) main_v0 = at' V main_v0 ∧ at' (after opsArg V) main_v1 = at' V main_v1
    ∧ at' (after opsArg V) main_arg1 = at' V main_arg1 ∧ at' (after opsArg V) main_arg4 = at' V main_arg4 := by
  refine ⟨fun b a => ?_, fun b a => ?_, ?_, ?_, ?_, ?_⟩
  all_goals
    simp only [at', opsArg, TRef.nullary, TRef.quaternary, TRef.toBuf, TRef.ofBuf, cast_eq]
    after_results_simp
  · pointwise
    simp only [h79]
    show Finset.fold max (lit 0xFF800000#32) _ _ = _
    rw [lit_bot]
    rfl
  · refine (argmax_read _ b a).trans ?_
    congr 3
    exact funext fun k => h79 b a k

/-- The index of a box is not negative as a signed integer. -/
theorem index_not_neg (k : Fin 32) : IntOp.cmpi .slt (BitVec.ofNat 32 k.val) 0#32 = 0#1 := by revert k; decide

/-- The annotation row each anchor is assigned to. -/
theorem gather_stage (h81 : ∀ b a, (at' V main_v81 : IVec S8x20000 32) (ix2 b a) = BitVec.ofNat 32 (first (ratios (A a) (X b))).val)
    (h4 : ∀ b k e, (at' V main_arg4 : FVec Ideal S8x32x11 .f32) (ix3 b k e) = X b k e) :
    (∀ b a e, (at' (after opsGather V) main_v88 : FVec Ideal S8x20000x11 .f32) (ix3 b a e) = assigned (A a) (X b) e)
    ∧ at' (after opsGather V) main_v80 = at' V main_v80
    ∧ at' (after opsGather V) main_v0 = at' V main_v0 ∧ at' (after opsGather V) main_v1 = at' V main_v1
    ∧ at' (after opsGather V) main_arg1 = at' V main_arg1 := by
  refine ⟨fun b a e => ?_, ?_, ?_, ?_, ?_⟩
  all_goals
    simp only [at', opsGather]
    after_results_simp
  refine (gather_read _ _ b a e (first (ratios (A a) (X b))) ?_).trans (h4 _ _ _)
  pointwise
  simp only [h81, index_not_neg]
  rfl

end Cert.ReferenceIdeal.Focal

end
-- ==== Proof.RefFocal.lean ====
module

public import proofs.«01_k».proof.Proof.RefOverlap

/-!
What the reference's focal part computes: which anchors are positive and which ignored, how many are positive, the
targets, the focal terms and the focal sum of each image per positive anchor.
-/

@[expose] public section

noncomputable section

namespace Cert.ReferenceIdeal.Focal

open Cert.ReferenceIdeal Cert.ReferenceIdeal.Gen Cert.FocalLoss Idealize.ShloMosaic Idealize.ShloMosaic.TcCoe Idealize.SL.Sem
  Idealize.ShloMosaic.StableHlo

open Classical in
/-- A proposition as a mask bit. -/
def bit (p : Prop) : BitVec 1 := if p then 1#1 else 0#1

open Classical in
/-- A choice on a mask bit is a choice on its proposition. -/
theorem select_bit {α : Type} (p : Prop) (x y : α) : Scalar.select (bit p) x y = if p then x else y := by
  unfold bit; split <;> rfl

/-- A decided proposition's mask bit. -/
theorem ofBool_decide (p : Prop) [Decidable p] : BitVec.ofBool (decide p) = bit p := by
  unfold bit; by_cases h : p <;> simp [h]

/-- The conjunction of a mask bit and the complement of another. -/
theorem and_not_bit (p q : Prop) : IntOp.andi (bit p) (~~~ bit q) = bit (p ∧ ¬ q) := by
  unfold bit; by_cases h : p <;> by_cases h' : q <;> simp [h, h', IntOp.andi]

open Classical in
/-- A count of mask bits as a 32-bit integer, converted exactly, is the sum of ones over the propositions. -/
theorem count_bits (P : Fin 20000 → Prop) :
    FloatOps.sitofp (F := Ideal) FTy.f32 (Finset.fold IntOp.addi (0#32) (fun x => BitVec.setWidth 32 (bit (P x))) Finset.univ)
      = ∑ a, if P a then (1 : EReal) else 0 := by
  rw [IndicatorCount.fold_addi_setWidth_eq_card]
  have hb : ∀ x, bit (P x) = 1#1 ↔ P x := fun x => by unfold bit; by_cases h : P x <;> simp [h]
  simp only [hb, Finset.sum_boole]
  have hc : (Finset.univ.filter fun x => P x).card ≤ 20000 := (Finset.card_le_univ _).trans (by simp)
  show (((BitVec.ofNat 32 _).toInt : ℝ) : EReal) = _
  rw [BitVec.toInt_ofNat']
  have : Int.bmod ((Finset.univ.filter fun x => P x).card : ℤ) (2 ^ 32) = (Finset.univ.filter fun x => P x).card :=
    Int.bmod_eq_of_le (by omega) (by omega)
  rw [this, Int.cast_natCast, EReal.coe_natCast]

variable (V : Contents) (A : Fin 20000 → Anchor) (X : Fin 8 → Fin 32 → Box)

/-- The positive anchors, the ignored ones and the number of the positive. -/
theorem sort_stage (h80 : ∀ b a, (at' V main_v80 : FVec Ideal S8x20000 .f32) (ix2 b a) = peak (ratios (A a) (X b))) :
    (∀ b a, (at' (after opsSort V) main_v90 : IVec S8x20000 1) (ix2 b a) = bit (Positive (A a) (X b)))
    ∧ (∀ b a, (at' (after opsSort V) main_v94 : IVec S8x20000 1) (ix2 b a) = bit (Ignored (A a) (X b)))
    ∧ (∀ b, (at' (after opsSort V) main_v97 : FVec Ideal S8 .f32) (ix1 b) = positives A (X b))
    ∧ at' (after opsSort V) main_v0 = at' V main_v0 ∧ at' (after opsSort V) main_v1 = at' V main_v1
    ∧ at' (after opsSort V) main_v88 = at' V main_v88 ∧ at' (after opsSort V) main_arg1 = at' V main_arg1 := by
  refine ⟨fun b a => ?_, fun b a => ?_, fun b => ?_, ?_, ?_, ?_, ?_⟩
  all_goals
    simp only [at', opsSort]
    after_results_simp
  · pointwise
    simp only [h80, ofBool_decide]
    rfl
  · pointwise
    simp only [h80, ofBool_decide, and_not_bit]
    rfl
  · pointwise
    simp only [h80, ofBool_decide, count_bits]
    rfl

/-- The class column against a class as a number. -/
theorem hit_bit (x : Box) (e : Fin 80) :
    FloatOps.uitofp (F := Ideal) FTy.f32 (IntOp.cmpi .eq (FloatOps.fptosi (F := Ideal) (φ := .f32) 32 (x 4)) (BitVec.ofNat 32 e.val))
      = (open Classical in if IsClass x e then (1 : EReal) else 0) := by
  show (((IntOp.cmpi .eq (FloatOps.fptosi (F := Ideal) (φ := .f32) 32 (x 4)) (BitVec.ofNat 32 e.val)).toNat : ℝ) : EReal) = _
  unfold IsClass
  by_cases h : FloatOps.fptosi (F := Ideal) (φ := .f32) 32 (x 4) = BitVec.ofNat 32 e.val
  · rw [if_pos h, h]; simp [IntOp.cmpi]
  · rw [if_neg h]; simp [IntOp.cmpi, h]

/-- The targets. -/
theorem target_stage (h88 : ∀ b a e, (at' V main_v88 : FVec Ideal S8x20000x11 .f32) (ix3 b a e) = assigned (A a) (X b) e)
    (h90 : ∀ b a, (at' V main_v90 : IVec S8x20000 1) (ix2 b a) = bit (Positive (A a) (X b)))
    (h94 : ∀ b a, (at' V main_v94 : IVec S8x20000 1) (ix2 b a) = bit (Ignored (A a) (X b))) :
    (∀ b a e, (at' (after opsTarget V) main_v105 : FVec Ideal S8x20000x80 .f32) (ix3 b a e) = target (A a) (X b) e)
    ∧ (at' (after opsTarget V) main_cst_11 : FVec Ideal S_ .f32) = constant (F := Ideal) S_ .f32 0x3F800000#32
    ∧ at' (after opsTarget V) main_v0 = at' V main_v0 ∧ at' (after opsTarget V) main_v1 = at' V main_v1
    ∧ at' (after opsTarget V) main_v88 = at' V main_v88 ∧ at' (after opsTarget V) main_v90 = at' V main_v90
    ∧ at' (after opsTarget V) main_v97 = at' V main_v97 ∧ at' (after opsTarget V) main_arg1 = at' V main_arg1 := by
  refine ⟨fun b a e => ?_, ?_, ?_, ?_, ?_, ?_, ?_, ?_⟩
  all_goals
    simp only [at', opsTarget, TRef.nullary, TRef.ternary, TRef.unary, TRef.binary, TRef.toBuf, TRef.ofBuf, cast_eq]
    after_results_simp
  simp only [id]
  pointwise
  simp only [h88, h90, h94, select_bit, hit_bit]
  rfl

/-- The class weight times the squared error of the probability. -/
theorem weight_stage (P : Fin 8 → Fin 20000 → Fin 80 → EReal)
    (h1 : ∀ b a e, (at' V main_v1 : FVec Ideal S8x20000x80 .f32) (ix3 b a e) = P b a e)
    (h105 : ∀ b a e, (at' V main_v105 : FVec Ideal S8x20000x80 .f32) (ix3 b a e) = target (A a) (X b) e)
    (hc : (at' V main_cst_11 : FVec Ideal S_ .f32) = constant (F := Ideal) S_ .f32 0x3F800000#32) :
    (∀ b a e, (at' (after opsWeight V) main_v117 : FVec Ideal S8x20000x80 .f32) (ix3 b a e)
      = (open Classical in (if target (A a) (X b) e = 1 then lit 0x3E800000#32 else lit 0x3F400000#32)
        * Ideal.pow (if target (A a) (X b) e = 1 then 1 - P b a e else P b a e) (lit 0x40000000#32)))
    ∧ at' (after opsWeight V) main_v0 = at' V main_v0 ∧ at' (after opsWeight V) main_v1 = at' V main_v1
    ∧ at' (after opsWeight V) main_v105 = at' V main_v105
    ∧ at' (after opsWeight V) main_v88 = at' V main_v88 ∧ at' (after opsWeight V) main_v90 = at' V main_v90
    ∧ at' (after opsWeight V) main_v97 = at' V main_v97 ∧ at' (after opsWeight V) main_arg1 = at' V main_arg1 := by
  refine ⟨fun b a e => ?_, ?_, ?_, ?_, ?_, ?_, ?_, ?_⟩
  all_goals
    simp only [at', opsWeight, TRef.nullary, TRef.ternary, TRef.unary, TRef.binary, TRef.toBuf, TRef.ofBuf, cast_eq]
    after_results_simp
  rw [show V (Proc.devRef .tc main_cst_11) = constant (F := Ideal) S_ .f32 0x3F800000#32 from hc]
  simp only [id]
  pointwise
  simp only [h1, h105]

/-- The focal terms. -/
theorem entropy_stage (P : Fin 8 → Fin 20000 → Fin 80 → EReal)
    (h1 : ∀ b a e, (at' V main_v1 : FVec Ideal S8x20000x80 .f32) (ix3 b a e) = P b a e)
    (h105 : ∀ b a e, (at' V main_v105 : FVec Ideal S8x20000x80 .f32) (ix3 b a e) = target (A a) (X b) e)
    (h117 : ∀ b a e, (at' V main_v117 : FVec Ideal S8x20000x80 .f32) (ix3 b a e)
      = (open Classical in (if target (A a) (X b) e = 1 then lit 0x3E800000#32 else lit 0x3F400000#32)
        * Ideal.pow (if target (A a) (X b) e = 1 then 1 - P b a e else P b a e) (lit 0x40000000#32))) :
    (∀ b a e, (at' (after opsEntropy V) main_v131 : FVec Ideal S8x20000x80 .f32) (ix3 b a e)
      = focal (target (A a) (X b) e) (P b a e))
    ∧ at' (after opsEntropy V) main_v0 = at' V main_v0
    ∧ at' (after opsEntropy V) main_v88 = at' V main_v88 ∧ at' (after opsEntropy V) main_v90 = at' V main_v90
    ∧ at' (after opsEntropy V) main_v97 = at' V main_v97 ∧ at' (after opsEntropy V) main_arg1 = at' V main_arg1 := by
  refine ⟨fun b a e => ?_, ?_, ?_, ?_, ?_, ?_⟩
  all_goals
    simp only [at', opsEntropy, TRef.nullary, TRef.ternary, TRef.unary, TRef.binary, TRef.toBuf, TRef.ofBuf, cast_eq]
    after_results_simp
  simp only [id]
  pointwise
  simp only [h1, h105, h117]
  unfold focal
  congr

/-- The focal sum of each image over its number of positive anchors, the latter at least one. -/
theorem cls_stage (P : Fin 8 → Fin 20000 → Fin 80 → EReal)
    (h131 : ∀ b a e, (at' V main_v131 : FVec Ideal S8x20000x80 .f32) (ix3 b a e) = focal (target (A a) (X b) e) (P b a e))
    (h97 : ∀ b, (at' V main_v97 : FVec Ideal S8 .f32) (ix1 b) = positives A (X b)) :
    (∀ b, (at' (after opsCls V) main_v135 : FVec Ideal S8 .f32) (ix1 b)
      = Ideal.div (focalSum (P b) A (X b)) (max (positives A (X b)) 1))
    ∧ at' (after opsCls V) main_v0 = at' V main_v0
    ∧ at' (after opsCls V) main_v88 = at' V main_v88 ∧ at' (after opsCls V) main_v90 = at' V main_v90
    ∧ at' (after opsCls V) main_v97 = at' V main_v97 ∧ at' (after opsCls V) main_arg1 = at' V main_arg1 := by
  refine ⟨fun b => ?_, ?_, ?_, ?_, ?_, ?_⟩
  all_goals
    simp only [at', opsCls]
    after_results_simp
  pointwise
  simp only [h131, h97]
  rfl

end Cert.ReferenceIdeal.Focal

end
-- ==== Proof.KernelOverlap.lean ====
module

public import proofs.«01_k».proof.Proof.RefFocal
public import proofs.«01_k».proof.Proof.Gen.KernelIdeal.Skeleton
public import Idealize.ShloMosaic.Lib.SortNet.Extract

/-!
What the kernel computes first at one image, read at a box and an anchor: the overlap ratios, the largest of each
anchor, which anchors are positive and which ignored, their number, the indicator of the assigned box and the box it picks.
-/

@[expose] public section

noncomputable section

namespace Cert.KernelIdeal.Focal

open Cert.KernelIdeal Cert.KernelIdeal.Gen Cert.FocalLoss Idealize.ShloMosaic
open Cert.ReferenceIdeal.Focal (bit select_bit ofBool_decide and_not_bit toInt_index lit_bot)

/-- The smallest word of a selection of words, taken from the largest word on: no selected word is smaller, and it is the
largest word or one of the selected. -/
theorem fold_min (f : Fin 32 → BitVec 32) (s : Finset (Fin 32)) :
    (∀ k ∈ s, (s.fold IntOp.minsi 2147483647#32 f).toInt ≤ (f k).toInt)
    ∧ (s.fold IntOp.minsi 2147483647#32 f = 2147483647#32 ∨ ∃ k ∈ s, s.fold IntOp.minsi 2147483647#32 f = f k) := by
  classical
  induction s using Finset.induction_on with
  | empty => exact ⟨by simp, .inl rfl⟩
  | insert k s hk ih =>
    rw [Finset.fold_insert hk]
    obtain ⟨hle, hmem⟩ := ih
    generalize s.fold IntOp.minsi 2147483647#32 f = r at *
    refine ⟨fun l hl => ?_, ?_⟩
    · rw [SortNet.toInt_minsi]
      rcases Finset.mem_insert.mp hl with rfl | hl
      · exact min_le_left _ _
      · exact (min_le_right _ _).trans (hle l hl)
    · unfold IntOp.minsi
      split
      · exact .inr ⟨k, Finset.mem_insert_self _ _, rfl⟩
      · rcases hmem with h | ⟨l, hl, h⟩
        · exact .inl h
        · exact .inr ⟨l, Finset.mem_insert_of_mem hl, h⟩

open Classical in
/-- The smallest of the indices at which the largest number stands is the first of them. -/
theorem min_first (u : Fin 32 → EReal) :
    Finset.fold IntOp.minsi 2147483647#32 (fun k : Fin 32 => if u k = peak u then BitVec.ofNat 32 k.val else 32#32) Finset.univ
      = BitVec.ofNat 32 (first u).val := by
  obtain ⟨hle, hmem⟩ := fold_min (fun k : Fin 32 => if u k = peak u then BitVec.ofNat 32 k.val else 32#32) Finset.univ
  generalize Finset.fold IntOp.minsi 2147483647#32
    (fun k : Fin 32 => if u k = peak u then BitVec.ofNat 32 k.val else 32#32) Finset.univ = r at *
  have hf := hle (first u) (Finset.mem_univ _)
  rw [if_pos (first_eq u), toInt_index] at hf
  have hb := (first u).isLt
  rcases hmem with rfl | ⟨k, -, rfl⟩
  · rw [show (2147483647#32).toInt = 2147483647 from by decide] at hf
    omega
  · by_cases hk : u k = peak u
    · rw [if_pos hk, toInt_index] at hf
      rw [if_pos hk, show k = first u from le_antisymm (by exact_mod_cast hf) (first_le u k hk)]
    · rw [if_neg hk, show (32#32).toInt = 32 from by decide] at hf
      omega

/-- Two indices below 32 are equal as words exactly when they are equal. -/
theorem index_word (k l : Fin 32) : IntOp.cmpi .eq (BitVec.ofNat 32 k.val) (BitVec.ofNat 32 l.val) = bit (k = l) := by
  unfold bit
  by_cases h : k = l
  · subst h; simp [IntOp.cmpi]
  · rw [if_neg h]
    have hne : BitVec.ofNat 32 k.val ≠ BitVec.ofNat 32 l.val := fun e => h (Fin.ext (by
      have := congrArg BitVec.toInt e
      rw [toInt_index, toInt_index] at this
      exact_mod_cast this))
    show BitVec.ofBool (BitVec.ofNat 32 k.val == BitVec.ofNat 32 l.val) = 0#1
    rw [beq_eq_false_iff_ne.mpr hne]; rfl

/-- The mask bit of a class against the class column. -/
theorem class_bit (x : Box) (e : Fin 80) :
    IntOp.cmpi .eq (BitVec.ofNat 32 e.val) (FloatOps.fptosi (F := Ideal) (φ := .f32) 32 (x 4)) = bit (IsClass x e) := by
  unfold IsClass bit
  by_cases h : FloatOps.fptosi (F := Ideal) (φ := .f32) 32 (x 4) = BitVec.ofNat 32 e.val
  · rw [if_pos h, h]; simp [IntOp.cmpi]
  · rw [if_neg h]
    show BitVec.ofBool (BitVec.ofNat 32 e.val == FloatOps.fptosi (F := Ideal) (φ := .f32) 32 (x 4)) = 0#1
    rw [beq_eq_false_iff_ne.mpr (Ne.symm h)]; rfl

/-- The complement of a mask bit by exclusive or. -/
theorem xor_bit (p : Prop) : IntOp.xori (bit p) 1#1 = ~~~ bit p := by
  unfold bit; by_cases h : p <;> simp [h, IntOp.xori]

variable (A : Fin 20000 → Anchor) (X : Fin 32 → Box)

/-- The overlap ratios. -/
theorem ratio_read (v0 : Vec Ideal S1x32x5 .f32) (v4 : Vec Ideal S1x4x20000 .f32)
    (hX : ∀ k (e : Fin 5), v0 (ix3 0 k e) = X k (e.castLE (by decide))) (hA : ∀ e a, v4 (ix3 0 e a) = A a e)
    (k : Fin 32) (a : Fin 20000) :
    k0_pay17 (k0_pay14 v0 v4) (k0_pay15 v4) (k0_pay16 v0) (ix2 k a) = ratio (A a) (X k) := by
  unfold_payloads
  pointwise
  simp only [hX, hA]
  rfl

section
variable (v34 v41 v42 : FVec Ideal S32x20000 .f32)
  (hu : ∀ k a, k0_pay17 v34 v41 v42 (ix2 k a) = ratio (A a) (X k))
include hu

/-- The largest ratio of each anchor. -/
theorem peak_read (a : Fin 20000) : k0_pay18 v34 v41 v42 (ix2 0 a) = peak (ratios (A a) X) := by
  unfold k0_pay18
  pointwise
  simp only [hu]
  rw [show Ideal.ofBits FTy.f32 4286578688#32 = ⊥ from lit_bot]
  rfl

open Classical in
/-- The positive anchors as numbers. -/
theorem positive_read (a : Fin 20000) : k0_pay20 v34 v41 v42 (ix2 0 a) = if Positive (A a) X then 1 else 0 := by
  unfold k0_pay20 k0_pay19
  pointwise
  rw [peak_read A X v34 v41 v42 hu]
  unfold Positive
  congr

open Classical in
/-- The weight of each anchor: zero for an ignored one. -/
theorem weight_read (a : Fin 20000) :
    k0_pay21 v34 v41 v42 (ix2 0 a) = if Ignored (A a) X then 0 else lit 0x3F400000#32 := by
  unfold k0_pay21 k0_pay19
  pointwise
  rw [peak_read A X v34 v41 v42 hu]
  simp only [ofBool_decide, xor_bit, and_not_bit, select_bit]
  rfl

/-- The number of positive anchors. -/
theorem count_read : k0_pay22 v34 v41 v42 = positives A X := by
  unfold k0_pay22
  pointwise
  simp only [positive_read A X v34 v41 v42 hu, Finset.univ_unique, Finset.sum_singleton]
  rfl

open Classical in
/-- The indicator of the assigned box of each positive anchor. -/
theorem onehot_read (k : Fin 32) (a : Fin 20000) :
    k0_pay23 v34 v41 v42 (ix2 k a) = if k = first (ratios (A a) X) then (if Positive (A a) X then 1 else 0) else 0 := by
  unfold k0_pay23
  pointwise
  simp only [peak_read A X v34 v41 v42 hu, positive_read A X v34 v41 v42 hu, hu]
  have h := min_first (ratios (A a) X)
  rw [show (fun x : Fin 32 => if ratio (A a) (X x) = peak (ratios (A a) X) then BitVec.ofNat 32 x.val else 32#32)
    = (fun x : Fin 32 => if ratios (A a) X x = peak (ratios (A a) X) then BitVec.ofNat 32 x.val else 32#32) from rfl]
  refine Eq.trans ?_ ((select_bit (k = first (ratios (A a) X)) _ _).trans (by congr))
  rw [← index_word, ← h]

open Classical in
/-- A coordinate of the box that the indicator picks. -/
theorem pick_read (v3 : FVec Ideal S5x32 .f32) (hT : ∀ (e : Fin 5) k, v3 (ix2 e k) = X k (e.castLE (by decide))) (e : Fin 5)
    (a : Fin 20000) :
    k0_pay24 v3 v34 v41 v42 (ix2 e a) = if Positive (A a) X then assigned (A a) X (e.castLE (by decide)) else 0 := by
  unfold k0_pay24
  pointwise [dot_S5x32_S32x20000_S5x20000_1_0_0_1_n_n]
  simp only [onehot_read A X v34 v41 v42 hu, hT, mul_ite, mul_one, mul_zero, Finset.sum_ite_eq', Finset.mem_univ, if_true]
  rfl

end

end Cert.KernelIdeal.Focal

end
-- ==== Proof.KernelSums.lean ====
module

public import proofs.«01_k».proof.Proof.LossReal
public import proofs.«01_k».proof.Proof.KernelOverlap

/-!
The three sums that the kernel forms at one image: the focal sum, the smooth sum and the number of positive anchors.
-/

@[expose] public section

noncomputable section

namespace Cert.KernelIdeal.Focal

open Cert.KernelIdeal Cert.KernelIdeal.Gen Cert.FocalLoss Idealize.ShloMosaic
open Cert.ReferenceIdeal.Focal (bit select_bit ofBool_decide and_not_bit)

variable (A : Fin 20000 → Anchor) (X : Fin 32 → Box) (p : Fin 20000 → Fin 80 → EReal) (r : Fin 20000 → Fin 4 → EReal)

open Classical in
/-- The marks of an anchor and a class, as the sum over the boxes that the kernel forms. -/
theorem mark_sum (a : Fin 20000) (e : Fin 80) :
    (∑ k, Scalar.select (bit (IsClass (X k) e))
      (if k = first (ratios (A a) X) then (if Positive (A a) X then (1 : EReal) else 0) else 0) 0) = (mark (A a) X e : ℝ) := by
  rw [Finset.sum_eq_single (first (ratios (A a) X)) (fun k _ hk => by rw [if_neg hk, select_bit, ite_self])
    (fun h => absurd (Finset.mem_univ _) h), select_bit, if_pos rfl]
  unfold mark pos assigned
  split <;> [split <;> simp; simp]

open Classical in
/-- The focal sum of an image. -/
theorem focal_read (v61 v68 : FVec Ideal S1x20000 .f32) (v78 : FVec Ideal S32x20000 .f32) (v88 : IVec S32x80 1)
    (v93 : Vec Ideal S1x20000x80 .f32)
    (h61 : ∀ a, v61 (ix2 0 a) = if Positive (A a) X then 1 else 0)
    (h68 : ∀ a, v68 (ix2 0 a) = if Ignored (A a) X then 0 else lit 0x3F400000#32)
    (h78 : ∀ k a, v78 (ix2 k a) = if k = first (ratios (A a) X) then (if Positive (A a) X then 1 else 0) else 0)
    (h88 : ∀ k e, v88 (ix2 k e) = bit (IsClass (X k) e))
    (h93 : ∀ a e, v93 (ix3 0 a e) = p a e)
    (q : Fin 20000 → Fin 80 → ℝ) (hpq : ∀ a e, p a e = q a e) (h0 : ∀ a e, 0 < q a e) (h1 : ∀ a e, q a e < 1) :
    k0_pay30 v61 v68 v78 v88 v93 = focalSum p A X := by
  have hm : ∀ a e, (∑ k, Scalar.select (v88 (ix2 k e)) (v78 (ix2 k a)) 0) = ((mark (A a) X e : ℝ) : EReal) := fun a e => by
    rw [← mark_sum]
    exact Finset.sum_congr rfl fun k _ => by rw [h88, h78]
  have hp : ∀ a, v61 (ix2 0 a) = ((pos (A a) X : ℝ) : EReal) := fun a => by
    rw [h61]; unfold pos; split <;> simp
  have hw : ∀ a, v68 (ix2 0 a) = ((weight (A a) X : ℝ) : EReal) := fun a => by
    rw [h68, lit_three_quarters]; unfold weight; split <;> simp
  unfold k0_pay30
  pointwise [dot_S32x20000_S32x80_S20000x80_0_0_1_1_n_n, dot_S1x20000_S20000x80_S1x80_1_0_0_1_n_n]
  simp only [hm, hp, hw, h93, Finset.univ_unique, Finset.sum_singleton]
  exact focalSum_eq p q hpq h0 h1 A X

/-- The named reciprocal of a tenth: a product with it is the quotient by the literal tenth. -/
theorem mul_tenth (x : EReal) : x * Named.named (F := Ideal) (φ := .f32) κ "inv_tenth" 0x41200000#32 = Ideal.div x (lit 0x3DCCCCCD#32) := by
  have hl : lit 0x3DCCCCCD#32 = ((13421773 / 134217728 : ℝ) : EReal) := by
    simp [lit, Ideal.ofBits, Ideal.ieee, -EReal.coe_mul]; norm_num
  rw [show Named.named (F := Ideal) (φ := .f32) κ "inv_tenth" 0x41200000#32 = ((134217728 / 13421773 : ℝ) : EReal) from
    IdealRules.named_const.ideal_named_scalar _ _ _ _ rfl, hl, Ideal.div_coe (by norm_num)]
  norm_num

/-- The named reciprocal of a fifth: a product with it is the quotient by the literal fifth. -/
theorem mul_fifth (x : EReal) : x * Named.named (F := Ideal) (φ := .f32) κ "inv_fifth" 0x40A00000#32 = Ideal.div x (lit 0x3E4CCCCD#32) := by
  have hl : lit 0x3E4CCCCD#32 = ((13421773 / 67108864 : ℝ) : EReal) := by
    simp [lit, Ideal.ofBits, Ideal.ieee, -EReal.coe_mul]; norm_num
  rw [show Named.named (F := Ideal) (φ := .f32) κ "inv_fifth" 0x40A00000#32 = ((67108864 / 13421773 : ℝ) : EReal) from
    IdealRules.named_const.ideal_named_scalar _ _ _ _ rfl, hl, Ideal.div_coe (by norm_num)]
  norm_num

/-- A lane against a number, as a mask bit. -/
theorem lane_bit (l : Fin 128) (k : Fin 128) : IntOp.cmpi .eq (BitVec.ofNat 32 l.val) (BitVec.ofNat 32 k.val) = bit (l = k) := by
  unfold bit
  by_cases h : l = k
  · subst h; simp [IntOp.cmpi]
  · rw [if_neg h]
    have hne : BitVec.ofNat 32 l.val ≠ BitVec.ofNat 32 k.val := fun e => h (Fin.ext (by
      have := congrArg BitVec.toNat e
      rw [BitVec.toNat_ofNat, BitVec.toNat_ofNat] at this
      omega))
    show BitVec.ofBool (BitVec.ofNat 32 l.val == BitVec.ofNat 32 k.val) = 0#1
    rw [beq_eq_false_iff_ne.mpr hne]; rfl

/-- What an image adds to its row of the output: the focal sum in lane 0, the smooth sum in lane 1, the number of
positive anchors in lane 2, zero elsewhere. -/
def lanes (c s n : EReal) (l : Fin 128) : EReal :=
  (if l = 0 then c else 0) + (if l = 1 then s else 0) + if l = 2 then n else 0

section
variable (v7 : FVec Ideal S4x20000 .f32) (v12 v13 v14 v15 v80 v81 v82 v83 : FVec Ideal S1x20000 .f32) (Y : Fin 20000 → Box)
  (h7 : ∀ k a, v7 (ix2 k a) = r a k)
  (h12 : ∀ a, v12 (ix2 0 a) = A a 0) (h13 : ∀ a, v13 (ix2 0 a) = A a 1)
  (h14 : ∀ a, v14 (ix2 0 a) = A a 2) (h15 : ∀ a, v15 (ix2 0 a) = A a 3)
  (h80 : ∀ a, v80 (ix2 0 a) = Y a 0) (h81 : ∀ a, v81 (ix2 0 a) = Y a 1)
  (h82 : ∀ a, v82 (ix2 0 a) = Y a 2) (h83 : ∀ a, v83 (ix2 0 a) = Y a 3)
include h12 h13 h14 h15 h80 h81 h82 h83

/-- The wanted stretch along the second axis. -/
theorem stretch_read (a : Fin 20000) : k0_pay39 (k0_pay32 v13 v15) (k0_pay36 v81 v83) (ix2 0 a) = wanted (A a) (Y a) 3 := by
  unfold k0_pay39 k0_pay32 k0_pay36
  pointwise
  rw [mul_fifth, h13, h15, h81, h83]
  rfl

include h7

/-- The smooth errors of the two shifts, added. -/
theorem shifts_read (a : Fin 20000) :
    k0_pay40 v7 (k0_pay31 v12 v14) (k0_pay32 v13 v15) (k0_pay33 v12 v14) (k0_pay34 v13 v15) (k0_pay37 v80 v82) (k0_pay38 v81 v83)
        (ix2 0 a)
      = smooth (wanted (A a) (Y a) 0) (r a 0) + smooth (wanted (A a) (Y a) 1) (r a 1) := by
  unfold k0_pay40 k0_pay33 k0_pay34 k0_pay37 k0_pay38 k0_pay31 k0_pay32 k0_pay35 k0_pay36
  pointwise
  simp only [mul_tenth, h7, h12, h13, h14, h15, h80, h81, h82, h83]
  unfold smooth
  congr

/-- The error of the stretch along the first axis. -/
theorem error_read (a : Fin 20000) :
    k0_pay41 v7 (k0_pay31 v12 v14) (k0_pay35 v80 v82) (ix2 0 a) = size (wanted (A a) (Y a) 2 - r a 2) := by
  unfold k0_pay41 k0_pay31 k0_pay35
  pointwise
  rw [mul_fifth, h7, h12, h14, h80, h82]
  rfl

open Classical in
/-- The first two lanes: the focal sum given, and the smooth sum of the picked boxes. -/
theorem smooth_read (v61 : FVec Ideal S1x20000 .f32) (v115 : Ideal .f32)
    (h61 : ∀ a, v61 (ix2 0 a) = if Positive (A a) X then 1 else 0)
    (hY : ∀ a, Positive (A a) X → wanted (A a) (Y a) = wanted (A a) (assigned (A a) X)) (l : Fin 128) :
    k0_pay44 v7 v61 v115 (k0_pay39 (k0_pay32 v13 v15) (k0_pay36 v81 v83))
        (k0_pay40 v7 (k0_pay31 v12 v14) (k0_pay32 v13 v15) (k0_pay33 v12 v14) (k0_pay34 v13 v15) (k0_pay37 v80 v82) (k0_pay38 v81 v83))
        (k0_pay41 v7 (k0_pay31 v12 v14) (k0_pay35 v80 v82)) k0_pay42 (ix2 0 l)
      = (if l = 0 then v115 else 0) + if l = 1 then smoothSum r A X else 0 := by
  unfold k0_pay44 k0_pay42
  pointwise
  simp only [stretch_read A v12 v13 v14 v15 v80 v81 v82 v83 Y h12 h13 h14 h15 h80 h81 h82 h83,
    shifts_read A r v7 v12 v13 v14 v15 v80 v81 v82 v83 Y h7 h12 h13 h14 h15 h80 h81 h82 h83,
    error_read A r v7 v12 v13 v14 v15 v80 v81 v82 v83 Y h7 h12 h13 h14 h15 h80 h81 h82 h83, h7, h61,
    Finset.univ_unique, Finset.sum_singleton]
  have hs : ∀ a, (smooth (wanted (A a) (Y a) 0) (r a 0) + smooth (wanted (A a) (Y a) 1) (r a 1)
        + smooth (wanted (A a) (Y a) 2) (r a 2) + smooth (wanted (A a) (Y a) 3) (r a 3)) * (if Positive (A a) X then 1 else 0)
      = ∑ k, if Positive (A a) X then smooth (wanted (A a) (assigned (A a) X) k) (r a k) else 0 := fun a => by
    by_cases h : Positive (A a) X
    · simp only [if_pos h, mul_one, Fin.sum_univ_four, hY a h]
    · simp only [if_neg h, mul_zero, Finset.sum_const_zero]
  have h0 := lane_bit l 0
  have h1 := lane_bit l 1
  refine congrArg₂ (· + ·) ?_ ?_
  · exact (congrArg (fun z => Scalar.select z v115 0) h0).trans ((select_bit _ _ _).trans (by congr))
  · refine (congrArg (fun z => Scalar.select z _ 0) h1).trans ((select_bit _ _ _).trans ?_)
    unfold smoothSum
    simp only [← hs]
    unfold smooth
    congr

end

/-- The row stored: the row loaded, plus the first two lanes and the number of positive anchors. -/
theorem row_read (v72 : Ideal .f32) (v220 : FVec Ideal S1x128 .f32) (v228 : Vec Ideal S1x128 .f32) (c s : EReal)
    (h : ∀ l, v220 (ix2 0 l) = (if l = 0 then c else 0) + if l = 1 then s else 0) (l : Fin 128) :
    k0_pay1 v72 v220 k0_pay45 (Scalar.ofBits .f32 0x00000000#32) v228 (ix2 0 l) = v228 (ix2 0 l) + lanes c s v72 l := by
  unfold k0_pay1 k0_pay45
  pointwise
  rw [h]
  have h2 := lane_bit l 2
  refine congrArg (fun z => v228 (ix2 0 l) + ((if l = 0 then c else 0) + (if l = 1 then s else 0) + z)) ?_
  exact (congrArg (fun z => Scalar.select z v72 0) h2).trans ((select_bit _ _ _).trans (by congr))

end Cert.KernelIdeal.Focal

end
-- ==== Proof.KernelBlock.lean ====
module

public import proofs.«01_k».proof.Proof.KernelSums
public import proofs.«01_k».proof.Proof.Gen.KernelIdeal.Frame
public import Idealize.ShloMosaic.Lib.Pipeline.ValueKit
public import Idealize.ShloMosaic.Lib.WritesUnit

/-!
What one grid point leaves in the output block: the image's row has its three sums added in lanes zero, one and two,
and every other row is as the point found it.
-/

@[expose] public section

noncomputable section

namespace Cert.KernelIdeal.Focal

open Cert.KernelIdeal Cert.KernelIdeal.Gen Cert.FocalLoss Idealize.ShloMosaic Idealize.ShloMosaic.TcCoe Idealize.SL.Sem
open Cert.ReferenceIdeal.Focal (bit select_bit ofBool_decide and_not_bit)

/-- The row that a point stores, of its five input blocks and the row it found. -/
def row (x0 : Vec Ideal S1x20000x80 .f32) (x1 : Vec Ideal S1x1x4x20000 .f32) (x2 : Vec Ideal S1x4x20000 .f32)
    (x3 : Vec Ideal S1x32x5 .f32) (x4 : Vec Ideal S1x5x32 .f32) (old : Vec Ideal S1x128 .f32) : Vec Ideal S1x128 .f32 :=
  let v3 := k0_pay3 x4
  let v7 := k0_pay5 x1
  let v12 := k0_pay10 x2
  let v13 := k0_pay11 x2
  let v14 := k0_pay12 x2
  let v15 := k0_pay13 x2
  let v34 := k0_pay14 x3 x2
  let v41 := k0_pay15 x2
  let v42 := k0_pay16 x3
  let v61 := k0_pay20 v34 v41 v42
  let v80 := k0_pay25 v3 v34 v41 v42
  let v81 := k0_pay26 v3 v34 v41 v42
  let v82 := k0_pay27 v3 v34 v41 v42
  let v83 := k0_pay28 v3 v34 v41 v42
  let v115 := k0_pay30 v61 (k0_pay21 v34 v41 v42) (k0_pay23 v34 v41 v42) (k0_pay29 (k0_pay2 x3)) x0
  k0_pay1 (k0_pay22 v34 v41 v42)
    (k0_pay44 v7 v61 v115 (k0_pay39 (k0_pay32 v13 v15) (k0_pay36 v81 v83))
      (k0_pay40 v7 (k0_pay31 v12 v14) (k0_pay32 v13 v15) (k0_pay33 v12 v14) (k0_pay34 v13 v15) (k0_pay37 v80 v82) (k0_pay38 v81 v83))
      (k0_pay41 v7 (k0_pay31 v12 v14) (k0_pay35 v80 v82)) k0_pay42)
    k0_pay45 (Scalar.ofBits .f32 0x00000000#32) old

variable (A : Fin 20000 → Anchor) (X : Fin 32 → Box) (p : Fin 20000 → Fin 80 → EReal) (r : Fin 20000 → Fin 4 → EReal)

open Classical in
/-- The stored row adds the image's three sums to the row found. -/
theorem row_eq (x0 : Vec Ideal S1x20000x80 .f32) (x1 : Vec Ideal S1x1x4x20000 .f32) (x2 : Vec Ideal S1x4x20000 .f32)
    (x3 : Vec Ideal S1x32x5 .f32) (x4 : Vec Ideal S1x5x32 .f32) (old : Vec Ideal S1x128 .f32)
    (h0 : ∀ a e, x0 (ix3 0 a e) = p a e) (h1 : ∀ a (k : Fin 4), x1 (ix4 0 0 k a) = r a k)
    (h2 : ∀ (e : Fin 4) a, x2 (ix3 0 e a) = A a e) (h3 : ∀ k (e : Fin 5), x3 (ix3 0 k e) = X k (e.castLE (by decide)))
    (h4 : ∀ (e : Fin 5) k, x4 (ix3 0 e k) = X k (e.castLE (by decide)))
    (q : Fin 20000 → Fin 80 → ℝ) (hpq : ∀ a e, p a e = q a e) (hq0 : ∀ a e, 0 < q a e) (hq1 : ∀ a e, q a e < 1) (l : Fin 128) :
    row x0 x1 x2 x3 x4 old (ix2 0 l)
      = old (ix2 0 l) + lanes (focalSum p A X) (smoothSum r A X) (positives A X) l := by
  have hu := ratio_read A X x3 x2 h3 h2
  have hT : ∀ (e : Fin 5) k, k0_pay3 x4 (ix2 e k) = X k (e.castLE (by decide)) := fun e k => by
    unfold k0_pay3
    pointwise
    exact h4 e k
  have h7 : ∀ (k : Fin 4) a, k0_pay5 x1 (ix2 k a) = r a k := fun k a => by
    unfold k0_pay5
    pointwise
    exact h1 a k
  have hclass : ∀ k (e : Fin 80), k0_pay29 (k0_pay2 x3) (ix2 k e) = bit (IsClass (X k) e) := fun k e => by
    unfold k0_pay29 k0_pay2
    pointwise
    rw [h3]
    exact class_bit (X k) e
  have hpos := positive_read A X _ _ _ hu
  have hfocal := focal_read A X p _ _ _ _ x0 hpos (weight_read A X _ _ _ hu) (onehot_read A X _ _ _ hu) hclass h0 q hpq hq0 hq1
  have hpick := pick_read A X _ _ _ hu _ hT
  have hY : ∀ a (e : Fin 5), (if Positive (A a) X then assigned (A a) X (e.castLE (by decide)) else 0)
      = (if Positive (A a) X then assigned (A a) X else fun _ => 0 : Box) (e.castLE (by decide)) := fun a e => by split <;> rfl
  unfold row
  refine (row_read _ _ old (focalSum p A X) (smoothSum r A X) (fun l => ?_) l).trans ?_
  · refine (smooth_read A X r _ _ _ _ _ _ _ _ _ (fun a => if Positive (A a) X then assigned (A a) X else fun _ => 0) h7
      ?_ ?_ ?_ ?_ ?_ ?_ ?_ ?_ _ _ hpos (fun a h => by rw [if_pos h]) l).trans (by rw [hfocal])
    · intro a; unfold k0_pay10 k0_pay4; pointwise; exact h2 0 a
    · intro a; unfold k0_pay11 k0_pay4; pointwise; exact h2 1 a
    · intro a; unfold k0_pay12 k0_pay4; pointwise; exact h2 2 a
    · intro a; unfold k0_pay13 k0_pay4; pointwise; exact h2 3 a
    · intro a; unfold k0_pay25; pointwise; exact (hpick 0 a).trans (hY a 0)
    · intro a; unfold k0_pay26; pointwise; exact (hpick 1 a).trans (hY a 1)
    · intro a; unfold k0_pay27; pointwise; exact (hpick 2 a).trans (hY a 2)
    · intro a; unfold k0_pay28; pointwise; exact (hpick 3 a).trans (hY a 3)
  · rw [count_read A X _ _ _ hu]

/-- Reading a buffer whose newest store was one row: that row is the one stored, the others are as before it. -/
theorem stored_row {κ : Kind} {sp : Space} (v : View sig κ sp S8x128 .f32) (f) (off : Fin 2 → ℕ)
    (inb : ∀ a : Fin 2, off a + (![1, 128] : Fin 2 → ℕ) a ≤ (![8, 128] : Fin 2 → ℕ) a)
    (w : Vec Ideal S1x128 .f32) (L : List (View.Piece (Elt Ideal) S8x128 .f32)) (b : Fin 8) (hb : off = ![b.val, 0]) (d : Fin 8) (l : Fin 128) :
    v.read (Elt Ideal) (v.writes (Elt Ideal) f ((⟨Rect.unit (s := S8x128) off ![1, 128] inb, w⟩ : View.Piece (Elt Ideal) S8x128 .f32) :: L)) (ix2 d l)
      = if d = b then w (ix2 0 l) else v.read (Elt Ideal) (v.writes (Elt Ideal) f L) (ix2 d l) := by
  by_cases h : d = b
  · subst h
    rw [if_pos rfl]
    exact View.read_writes_cons_rows_of_mem v f (d := ![8, 128]) inb w L (ix2 d l) (ix2 0 l) hb rfl (by simp)
  · rw [if_neg h]
    refine View.read_writes_cons_rows_of_not_mem v f (d := ![8, 128]) (o := b.val) (W := 1) inb w L (ix2 d l) hb rfl ?_
    have : d.val ≠ b.val := fun e => h (Fin.ext e)
    change d.val < b.val ∨ b.val + 1 ≤ d.val
    omega

/-- Reading one row of a buffer. -/
theorem found_row (Z : Vec Ideal S8x128 .f32) (off : Fin 2 → ℕ)
    (inb : ∀ a : Fin 2, off a + (![1, 128] : Fin 2 → ℕ) a ≤ (![8, 128] : Fin 2 → ℕ) a) (b : Fin 8) (hb : off = ![b.val, 0]) :
    (View.ld (Val := Elt Ideal) (e' := .f32) Z (Rect.unit (s := S8x128) off ![1, 128] inb) : Vec Ideal S1x128 .f32)
      = fun y => Z (ix2 b (y 1 : Fin 128)) := by
  subst hb
  funext y
  refine View.ld_unit_apply_of (S := S8x128) _ _ _ _ _ _ fun a => ?_
  have h0 : (y 0).val = 0 := Nat.lt_one_iff.mp (y 0).isLt
  match a with
  | 0 => exact (congrArg (b.val + ·) h0).symm
  | 1 => exact (Nat.zero_add _).symm

/-- The block is zeroed at the first point. -/
theorem zero_read (y : S8x128.Idx) : k0_pay43 (F := Ideal) y = 0 := by
  unfold k0_pay43
  exact Ideal.ofBits_zero .f32

variable (c : Dev nD) (i : grid0.Coords) (arg2 : Memref sig .tc .vmem S1x20000x80 .f32) (harg2 : arg2.IsWhole) (arg3 : Memref sig .tc .vmem S1x1x4x20000 .f32) (harg3 : arg3.IsWhole) (arg4 : Memref sig .tc .vmem S1x4x20000 .f32) (harg4 : arg4.IsWhole) (arg5 : Memref sig .tc .vmem S1x32x5 .f32) (harg5 : arg5.IsWhole) (arg6 : Memref sig .tc .vmem S1x5x32 .f32) (harg6 : arg6.IsWhole) (arg7 : Memref sig .tc .vmem S8x128 .f32) (harg7 : arg7.IsWhole)
  (x0 : Vec Ideal S1x20000x80 .f32) (x1 : Vec Ideal S1x1x4x20000 .f32) (x2 : Vec Ideal S1x4x20000 .f32)
  (x3 : Vec Ideal S1x32x5 .f32) (x4 : Vec Ideal S1x5x32 .f32)

/-- A later point: its own row is the stored one, the other rows are as found. -/
theorem later (hc0 : ¬cond0_0 i) (xo5 : Vec Ideal S8x128 .f32) (b : Fin 8) (hb : k0_off1 i = ![b.val, 0]) (d : Fin 8) (l : Fin 128) :
    out0_B_5 c i arg2 harg2 arg3 harg3 arg4 harg4 arg5 harg5 arg6 harg6 arg7 harg7 hc0 x0 x1 x2 x3 x4 xo5 (ix2 d l)
      = if d = b then row x0 x1 x2 x3 x4 (fun y => xo5 (ix2 b (y 1 : Fin 128))) (ix2 0 l) else xo5 (ix2 d l) := by
  frame_out
  refine (stored_row _ _ _ _ _ _ b hb d l).trans ?_
  rw [found_row xo5 _ _ b hb]
  exact if_congr Iff.rfl rfl (congrFun (harg7.read_unread xo5) _)

/-- The first point: its own row is the one stored over zeros, the other rows are zero. -/
theorem first_point (hc0 : cond0_0 i) (b : Fin 8) (hb : k0_off1 i = ![b.val, 0]) (d : Fin 8) (l : Fin 128) :
    out0_A_5 c i arg2 harg2 arg3 harg3 arg4 harg4 arg5 harg5 arg6 harg6 arg7 harg7 hc0 x0 x1 x2 x3 x4 (ix2 d l)
      = if d = b then row x0 x1 x2 x3 x4 (fun _ => 0) (ix2 0 l) else 0 := by
  frame_out
  rw [← View.read_writes_junk_eq_canon VO0_5]
  refine (stored_row _ _ _ _ _ _ b hb d l).trans ?_
  rw [found_row _ _ _ b hb]
  refine if_congr Iff.rfl (congrArg (fun z => row x0 x1 x2 x3 x4 z (ix2 0 l)) (funext fun y => zero_read _)) ?_
  exact (congrFun ((View.read_writes_junk_eq_canon VO0_5 _).trans
    (View.canon_cons_unit_lit (Val := Elt Ideal) (e := .f32) (S := S8x128) inb_S8x128_S8x128_0_0 (k0_pay43 (F := Ideal)) [] (by decide))) (ix2 d l)).trans (zero_read _)

end Cert.KernelIdeal.Focal

end
-- ==== Proof.RefSmooth.lean ====
module

public import proofs.«01_k».proof.Proof.RefFocal

/-!
What the reference's regression part computes, and its result: the two means of the loss.
-/

@[expose] public section

noncomputable section

namespace Cert.ReferenceIdeal.Focal

open Cert.ReferenceIdeal Cert.ReferenceIdeal.Gen Cert.FocalLoss Idealize.ShloMosaic Idealize.ShloMosaic.TcCoe Idealize.SL.Sem
  Idealize.ShloMosaic.StableHlo

variable (V : Contents) (A : Fin 20000 → Anchor) (X : Fin 8 → Fin 32 → Box)

/-- The extents of the anchors and their centres along the first axis. -/
theorem anchor_stage (h0 : ∀ a k, (at' V main_v0 : FVec Ideal S20000x4 .f32) (ix2 a k) = A a k) :
    (∀ a, (at' (after opsAnchor V) main_v140 : FVec Ideal S20000 .f32) (ix1 a) = A a 2 - A a 0)
    ∧ (∀ a, (at' (after opsAnchor V) main_v145 : FVec Ideal S20000 .f32) (ix1 a) = A a 3 - A a 1)
    ∧ (∀ a, (at' (after opsAnchor V) main_v150 : FVec Ideal S20000 .f32) (ix1 a) = A a 0 + lit 0x3F000000#32 * (A a 2 - A a 0))
    ∧ (∀ a, (at' (after opsAnchor V) main_v152 : FVec Ideal S20000 .f32) (ix1 a) = A a 1)
    ∧ (at' (after opsAnchor V) main_cst_24 : FVec Ideal S_ .f32) = constant (F := Ideal) S_ .f32 0x3F000000#32
    ∧ at' (after opsAnchor V) main_v88 = at' V main_v88 ∧ at' (after opsAnchor V) main_v90 = at' V main_v90
    ∧ at' (after opsAnchor V) main_v97 = at' V main_v97 ∧ at' (after opsAnchor V) main_v135 = at' V main_v135
    ∧ at' (after opsAnchor V) main_arg1 = at' V main_arg1 := by
  refine ⟨fun a => ?_, fun a => ?_, fun a => ?_, fun a => ?_, ?_, ?_, ?_, ?_, ?_, ?_⟩
  all_goals
    simp only [at', opsAnchor]
    after_results_simp
  all_goals
    pointwise
    simp only [h0]

/-- The centres of the anchors along the second axis, and the extents and centres of the assigned boxes. -/
theorem box_stage (h145 : ∀ a, (at' V main_v145 : FVec Ideal S20000 .f32) (ix1 a) = A a 3 - A a 1)
    (h152 : ∀ a, (at' V main_v152 : FVec Ideal S20000 .f32) (ix1 a) = A a 1)
    (hc : (at' V main_cst_24 : FVec Ideal S_ .f32) = constant (F := Ideal) S_ .f32 0x3F000000#32)
    (h88 : ∀ b a e, (at' V main_v88 : FVec Ideal S8x20000x11 .f32) (ix3 b a e) = assigned (A a) (X b) e) :
    (∀ a, (at' (after opsBox V) main_v155 : FVec Ideal S20000 .f32) (ix1 a) = A a 1 + lit 0x3F000000#32 * (A a 3 - A a 1))
    ∧ (∀ b a, (at' (after opsBox V) main_v165 : FVec Ideal S8x20000 .f32) (ix2 b a)
        = assigned (A a) (X b) 3 - assigned (A a) (X b) 1)
    ∧ (∀ b a, (at' (after opsBox V) main_v170 : FVec Ideal S8x20000 .f32) (ix2 b a)
        = assigned (A a) (X b) 0 + lit 0x3F000000#32 * (assigned (A a) (X b) 2 - assigned (A a) (X b) 0))
    ∧ (∀ b a, (at' (after opsBox V) main_v175 : FVec Ideal S8x20000 .f32) (ix2 b a)
        = assigned (A a) (X b) 1 + lit 0x3F000000#32 * (assigned (A a) (X b) 3 - assigned (A a) (X b) 1))
    ∧ (∀ b a, (at' (after opsBox V) main_v176 : FVec Ideal S8x20000 .f32) (ix2 b a)
        = max 1 (assigned (A a) (X b) 2 - assigned (A a) (X b) 0))
    ∧ (at' (after opsBox V) main_cst_28 : FVec Ideal S_ .f32) = constant (F := Ideal) S_ .f32 0x3F800000#32
    ∧ at' (after opsBox V) main_v140 = at' V main_v140 ∧ at' (after opsBox V) main_v145 = at' V main_v145
    ∧ at' (after opsBox V) main_v150 = at' V main_v150 ∧ at' (after opsBox V) main_v90 = at' V main_v90
    ∧ at' (after opsBox V) main_v97 = at' V main_v97 ∧ at' (after opsBox V) main_v135 = at' V main_v135
    ∧ at' (after opsBox V) main_arg1 = at' V main_arg1 := by
  refine ⟨fun a => ?_, fun b a => ?_, fun b a => ?_, fun b a => ?_, fun b a => ?_, ?_, ?_, ?_, ?_, ?_, ?_, ?_, ?_⟩
  all_goals
    simp only [at', opsBox, TRef.unary, TRef.binary, TRef.toBuf, TRef.ofBuf, cast_eq]
    after_results_simp
  · rw [show V (Proc.devRef .tc main_cst_24) = constant (F := Ideal) S_ .f32 0x3F000000#32 from hc]
    pointwise
    simp only [h145, h152]
  all_goals
    try simp only [id]
    pointwise
    simp only [h88]

/-- The wanted shifts and stretches, the last one before its division. -/
theorem delta_stage (h140 : ∀ a, (at' V main_v140 : FVec Ideal S20000 .f32) (ix1 a) = A a 2 - A a 0)
    (h145 : ∀ a, (at' V main_v145 : FVec Ideal S20000 .f32) (ix1 a) = A a 3 - A a 1)
    (h150 : ∀ a, (at' V main_v150 : FVec Ideal S20000 .f32) (ix1 a) = A a 0 + lit 0x3F000000#32 * (A a 2 - A a 0))
    (h155 : ∀ a, (at' V main_v155 : FVec Ideal S20000 .f32) (ix1 a) = A a 1 + lit 0x3F000000#32 * (A a 3 - A a 1))
    (h165 : ∀ b a, (at' V main_v165 : FVec Ideal S8x20000 .f32) (ix2 b a) = assigned (A a) (X b) 3 - assigned (A a) (X b) 1)
    (h170 : ∀ b a, (at' V main_v170 : FVec Ideal S8x20000 .f32) (ix2 b a)
        = assigned (A a) (X b) 0 + lit 0x3F000000#32 * (assigned (A a) (X b) 2 - assigned (A a) (X b) 0))
    (h175 : ∀ b a, (at' V main_v175 : FVec Ideal S8x20000 .f32) (ix2 b a)
        = assigned (A a) (X b) 1 + lit 0x3F000000#32 * (assigned (A a) (X b) 3 - assigned (A a) (X b) 1))
    (h176 : ∀ b a, (at' V main_v176 : FVec Ideal S8x20000 .f32) (ix2 b a)
        = max 1 (assigned (A a) (X b) 2 - assigned (A a) (X b) 0))
    (hc : (at' V main_cst_28 : FVec Ideal S_ .f32) = constant (F := Ideal) S_ .f32 0x3F800000#32) :
    (∀ b a, (at' (after opsDelta V) main_v199 : FVec Ideal S8x20000 .f32) (ix2 b a) = wanted (A a) (assigned (A a) (X b)) 0)
    ∧ (∀ b a, (at' (after opsDelta V) main_v201 : FVec Ideal S8x20000 .f32) (ix2 b a) = wanted (A a) (assigned (A a) (X b)) 1)
    ∧ (∀ b a, (at' (after opsDelta V) main_v203 : FVec Ideal S8x20000 .f32) (ix2 b a) = wanted (A a) (assigned (A a) (X b)) 2)
    ∧ (∀ b a, (at' (after opsDelta V) main_v197 : FVec Ideal S8x20000 .f32) (ix2 b a)
        = stretch (A a 1) (A a 3) (assigned (A a) (X b) 1) (assigned (A a) (X b) 3))
    ∧ (∀ b a, (at' (after opsDelta V) main_v204 : FVec Ideal S8x20000 .f32) (ix2 b a) = lit 0x3E4CCCCD#32)
    ∧ at' (after opsDelta V) main_v90 = at' V main_v90
    ∧ at' (after opsDelta V) main_v97 = at' V main_v97 ∧ at' (after opsDelta V) main_v135 = at' V main_v135
    ∧ at' (after opsDelta V) main_arg1 = at' V main_arg1 := by
  refine ⟨fun b a => ?_, fun b a => ?_, fun b a => ?_, fun b a => ?_, fun b a => ?_, ?_, ?_, ?_, ?_⟩
  all_goals
    simp only [at', opsDelta, TRef.unary, TRef.binary, TRef.toBuf, TRef.ofBuf, cast_eq]
    after_results_simp
  · pointwise
    simp only [h170, h150, h140]
    rfl
  · pointwise
    simp only [h175, h155, h145]
    rfl
  · pointwise
    simp only [h176, h140]
    rfl
  · rw [show V (Proc.devRef .tc main_cst_28) = constant (F := Ideal) S_ .f32 0x3F800000#32 from hc]
    simp only [id]
    pointwise
    simp only [h165, h145]
    rfl
  · pointwise

/-- The smooth errors of the positive anchors. -/
theorem smooth_stage (R : Fin 8 → Fin 20000 → Fin 4 → EReal)
    (h199 : ∀ b a, (at' V main_v199 : FVec Ideal S8x20000 .f32) (ix2 b a) = wanted (A a) (assigned (A a) (X b)) 0)
    (h201 : ∀ b a, (at' V main_v201 : FVec Ideal S8x20000 .f32) (ix2 b a) = wanted (A a) (assigned (A a) (X b)) 1)
    (h203 : ∀ b a, (at' V main_v203 : FVec Ideal S8x20000 .f32) (ix2 b a) = wanted (A a) (assigned (A a) (X b)) 2)
    (h197 : ∀ b a, (at' V main_v197 : FVec Ideal S8x20000 .f32) (ix2 b a)
        = stretch (A a 1) (A a 3) (assigned (A a) (X b) 1) (assigned (A a) (X b) 3))
    (h204 : ∀ b a, (at' V main_v204 : FVec Ideal S8x20000 .f32) (ix2 b a) = lit 0x3E4CCCCD#32)
    (h90 : ∀ b a, (at' V main_v90 : IVec S8x20000 1) (ix2 b a) = bit (Positive (A a) (X b)))
    (hr : ∀ b a k, (at' V main_arg1 : FVec Ideal S8x20000x4 .f32) (ix3 b a k) = R b a k) :
    (∀ b a k, (at' (after opsSmooth V) main_v222 : FVec Ideal S8x20000x4 .f32) (ix3 b a k)
        = (open Classical in if Positive (A a) (X b) then smooth (wanted (A a) (assigned (A a) (X b)) k) (R b a k) else 0))
    ∧ at' (after opsSmooth V) main_v97 = at' V main_v97 ∧ at' (after opsSmooth V) main_v135 = at' V main_v135 := by
  refine ⟨fun b a k => ?_, ?_, ?_⟩
  all_goals
    simp only [at', opsSmooth, TRef.ternary, TRef.unary, TRef.binary, TRef.toBuf, TRef.ofBuf, cast_eq]
    after_results_simp
  dsimp only [Matrix.cons_val]
  after_results_simp
  dsimp only [Matrix.cons_val, joinColumns]
  simp only [id]
  pointwise
  simp only [h199, h201, h203, h197, h204, h90, hr, select_bit]
  have hk : (if h : k.val < 1 then wanted (A a) (assigned (A a) (X b)) 0
      else if h : k.val - 1 < 1 then wanted (A a) (assigned (A a) (X b)) 1
      else if h : k.val - 1 - 1 < 1 then wanted (A a) (assigned (A a) (X b)) 2
      else Ideal.div (stretch (A a 1) (A a 3) (assigned (A a) (X b) 1) (assigned (A a) (X b) 3)) (lit 0x3E4CCCCD#32))
      = wanted (A a) (assigned (A a) (X b)) k := by
    match k with
    | ⟨0, _⟩ => rfl
    | ⟨1, _⟩ => rfl
    | ⟨2, _⟩ => rfl
    | ⟨3, _⟩ => rfl
  simp only [hk]
  unfold smooth
  congr

/-- The two means of the loss. -/
theorem mean_stage (P : Fin 8 → Fin 20000 → Fin 80 → EReal) (R : Fin 8 → Fin 20000 → Fin 4 → EReal)
    (h222 : ∀ b a k, (at' V main_v222 : FVec Ideal S8x20000x4 .f32) (ix3 b a k)
        = (open Classical in if Positive (A a) (X b) then smooth (wanted (A a) (assigned (A a) (X b)) k) (R b a k) else 0))
    (h97 : ∀ b, (at' V main_v97 : FVec Ideal S8 .f32) (ix1 b) = positives A (X b))
    (h135 : ∀ b, (at' V main_v135 : FVec Ideal S8 .f32) (ix1 b)
      = Ideal.div (focalSum (P b) A (X b)) (max (positives A (X b)) 1)) (i : Fin 2) :
    (at' (after opsMean V) main_v235 : FVec Ideal S2 .f32) (ix1 i) = loss P R A X i := by
  simp only [at', opsMean]
  after_results_simp
  dsimp only [joinPair]
  pointwise
  simp only [h222, h97, h135]
  match i with
  | ⟨0, _⟩ => rfl
  | ⟨1, _⟩ => rfl

end Cert.ReferenceIdeal.Focal

end
-- ==== Proof.RefValue.lean ====
module

public import proofs.«01_k».proof.Proof.RefSmooth

/-!
The value of the reference: its result is the loss of its arguments, and its arguments end unchanged.
-/

@[expose] public section

noncomputable section

namespace Cert.ReferenceIdeal.Focal

open Cert.ReferenceIdeal Cert.ReferenceIdeal.Gen Cert.FocalLoss Idealize.ShloMosaic Idealize.ShloMosaic.TcCoe Idealize.SL.Sem
  Idealize.ShloMosaic.StableHlo

/-- Two lists run one after the other. -/
theorem after_append {F : FTy → Type} (l l' : List (HloOp τ sig (Elt F))) (V : Valuation τ sig (Elt F)) :
    after (l ++ l') V = after l' (after l V) := by
  induction l generalizing V with
  | nil => rfl
  | cons o l ih => exact ih _

/-- The probabilities of the arguments, clipped. -/
def clipped (V : Contents) (b : Fin 8) (a : Fin 20000) (e : Fin 80) : EReal :=
  min (lit 0x3F7FF972#32) (max (lit 0x38D1B717#32) ((at' V main_arg0 : FVec Ideal S8x20000x80 .f32) (ix3 b a e)))

/-- The regressions of the arguments. -/
def regressions (V : Contents) (b : Fin 8) (a : Fin 20000) (k : Fin 4) : EReal :=
  (at' V main_arg1 : FVec Ideal S8x20000x4 .f32) (ix3 b a k)

/-- The anchors of the arguments. -/
def anchors (V : Contents) (a : Fin 20000) (k : Fin 4) : EReal := (at' V main_arg3 : FVec Ideal S1x20000x4 .f32) (ix3 0 a k)

/-- The annotations of the arguments. -/
def boxes (V : Contents) (b : Fin 8) (k : Fin 32) (e : Fin 11) : EReal := (at' V main_arg4 : FVec Ideal S8x32x11 .f32) (ix3 b k e)

/-- The reference's result is the loss of its arguments. -/
theorem value (V : Contents) (i : Fin 2) :
    (at' (after ops V) main_v235 : FVec Ideal S2 .f32) (ix1 i) = loss (clipped V) (regressions V) (anchors V) (boxes V) i := by
  generalize hP : clipped V = P
  generalize hR : regressions V = R
  generalize hA : anchors V = A
  generalize hX : boxes V = X
  have p0 : ∀ b a e, min (lit 0x3F7FF972#32) (max (lit 0x38D1B717#32) ((at' V main_arg0 : FVec Ideal S8x20000x80 .f32) (ix3 b a e))) = P b a e :=
    fun b a e => hP ▸ rfl
  have p1 : ∀ b a k, (at' V main_arg1 : FVec Ideal S8x20000x4 .f32) (ix3 b a k) = R b a k := fun b a k => hR ▸ rfl
  have p3 : ∀ a k, (at' V main_arg3 : FVec Ideal S1x20000x4 .f32) (ix3 0 a k) = A a k := fun a k => hA ▸ rfl
  have p4 : ∀ b k e, (at' V main_arg4 : FVec Ideal S8x32x11 .f32) (ix3 b k e) = X b k e := fun b k e => hX ▸ rfl
  simp only [ops, part0, part1, part2, part3, part4, after_append]
  obtain ⟨a0, a1, a2, a13, k1, k4⟩ := area_stage V A X p3 p4
  simp only [p0] at a1
  rw [← k1] at p1; rw [← k4] at p4
  generalize after opsArea V = V₁ at *
  obtain ⟨b34, q0, q1, q2, q13, k1, k4⟩ := width_stage V₁ A X a0 a2
  rw [← k1] at p1; rw [← k4] at p4; rw [← q0] at a0; rw [← q1] at a1; rw [← q2] at a2; rw [← q13] at a13
  generalize after opsWidth V₁ = V₂ at *
  obtain ⟨b55, b56, q0, q1, q13, k1, k4⟩ := height_stage V₂ A X a0 a2 b34
  rw [← k1] at p1; rw [← k4] at p4; rw [← q0] at a0; rw [← q1] at a1; rw [← q13] at a13
  generalize after opsHeight V₂ = V₃ at *
  obtain ⟨b79, q0, q1, k1, k4⟩ := iou_stage V₃ A X a0 a13 b55 b56
  rw [← k1] at p1; rw [← k4] at p4; rw [← q0] at a0; rw [← q1] at a1
  generalize after opsIou V₃ = V₄ at *
  obtain ⟨b80, b81, q0, q1, k1, k4⟩ := arg_stage V₄ A X b79
  rw [← k1] at p1; rw [← k4] at p4; rw [← q0] at a0; rw [← q1] at a1
  generalize after opsArg V₄ = V₅ at *
  obtain ⟨b88, q80, q0, q1, k1⟩ := gather_stage V₅ A X b81 p4
  rw [← k1] at p1; rw [← q80] at b80; rw [← q0] at a0; rw [← q1] at a1
  generalize after opsGather V₅ = V₆ at *
  obtain ⟨b90, b94, b97, q0, q1, q88, k1⟩ := sort_stage V₆ A X b80
  rw [← k1] at p1; rw [← q88] at b88; rw [← q0] at a0; rw [← q1] at a1
  generalize after opsSort V₆ = V₇ at *
  obtain ⟨b105, bc, q0, q1, q88, q90, q97, k1⟩ := target_stage V₇ A X b88 b90 b94
  rw [← k1] at p1; rw [← q88] at b88; rw [← q0] at a0; rw [← q1] at a1; rw [← q90] at b90; rw [← q97] at b97
  generalize after opsTarget V₇ = V₈ at *
  obtain ⟨b117, q0, q1, q105, q88, q90, q97, k1⟩ := weight_stage V₈ A X P a1 b105 bc
  rw [← k1] at p1; rw [← q88] at b88; rw [← q0] at a0; rw [← q1] at a1; rw [← q90] at b90; rw [← q97] at b97
  rw [← q105] at b105
  generalize after opsWeight V₈ = V₉ at *
  obtain ⟨b131, q0, q88, q90, q97, k1⟩ := entropy_stage V₉ A X P a1 b105 b117
  rw [← k1] at p1; rw [← q88] at b88; rw [← q0] at a0; rw [← q90] at b90; rw [← q97] at b97
  generalize after opsEntropy V₉ = V₁₀ at *
  obtain ⟨b135, q0, q88, q90, q97, k1⟩ := cls_stage V₁₀ A X P b131 b97
  rw [← k1] at p1; rw [← q88] at b88; rw [← q0] at a0; rw [← q90] at b90; rw [← q97] at b97
  generalize after opsCls V₁₀ = V₁₁ at *
  obtain ⟨b140, b145, b150, b152, bc, q88, q90, q97, q135, k1⟩ := anchor_stage V₁₁ A a0
  rw [← k1] at p1; rw [← q88] at b88; rw [← q90] at b90; rw [← q97] at b97; rw [← q135] at b135
  generalize after opsAnchor V₁₁ = V₁₂ at *
  obtain ⟨b155, b165, b170, b175, b176, bc, q140, q145, q150, q90, q97, q135, k1⟩ := box_stage V₁₂ A X b145 b152 bc b88
  rw [← k1] at p1; rw [← q140] at b140; rw [← q145] at b145; rw [← q150] at b150; rw [← q90] at b90; rw [← q97] at b97
  rw [← q135] at b135
  generalize after opsBox V₁₂ = V₁₃ at *
  obtain ⟨b199, b201, b203, b197, b204, q90, q97, q135, k1⟩ :=
    delta_stage V₁₃ A X b140 b145 b150 b155 b165 b170 b175 b176 bc
  rw [← k1] at p1; rw [← q90] at b90; rw [← q97] at b97; rw [← q135] at b135
  generalize after opsDelta V₁₃ = V₁₄ at *
  obtain ⟨b222, q97, q135⟩ := smooth_stage V₁₄ A X R b199 b201 b203 b197 b204 b90 p1
  rw [← q97] at b97; rw [← q135] at b135
  generalize after opsSmooth V₁₄ = V₁₅ at *
  exact mean_stage V₁₅ A X P R b222 b97 b135 i

/-- The arguments end as they started. -/
theorem kept {F : FTy → Type} [FloatOps F] (V : Valuation τ sig (Elt F)) (r : Ref sig .tc)
    (h : r = main_arg0 ∨ r = main_arg1 ∨ r = main_arg2 ∨ r = main_arg3 ∨ r = main_arg4 ∨ r = main_arg5 ∨ r = main_arg6) :
    after ops V (Proc.devRef .tc r) = V (Proc.devRef .tc r) := by
  simp only [ops, part0, part1, part2, part3, part4, after_append]
  rcases h with rfl | rfl | rfl | rfl | rfl | rfl | rfl <;> after_results_simp

end Cert.ReferenceIdeal.Focal

end
-- ==== Proof.KernelWindows.lean ====
module

public import proofs.«01_k».proof.Proof.RefValue
public import proofs.«01_k».proof.Proof.Gen.KernelIdeal.Frame
public import Idealize.ShloMosaic.Lib.Pipeline.ValueKit
public import Idealize.ShloMosaic.Lib.Claim

/-!
What the kernel's five input blocks hold at each grid point, as entries of the arguments.
-/

@[expose] public section

noncomputable section

namespace Cert.KernelIdeal.Focal

open Cert.KernelIdeal Cert.KernelIdeal.Gen Idealize.ShloMosaic Idealize.ShloMosaic.TcCoe Idealize.SL.Sem

variable (m : (ℓ : Loc nD τ sig) → Buf (Elt Ideal) ℓ) (c : Dev nD)

/-- The blocks' places: point `t` reads image `t`; the anchors' block is their whole array. -/
theorem places : ∀ t : Fin cfg0.N, win0_0.index t = ![t.val, 0, 0] ∧ win0_1.index t = ![t.val, 0, 0, 0] ∧ win0_2.index t = ![0, 0, 0]
    ∧ win0_3.index t = ![t.val, 0, 0] ∧ win0_4.index t = ![t.val, 0, 0] ∧ win0_5.index t = ![0, 0] :=
  (by decide +kernel : ∀ t : Fin grid0.N, _)

variable (t : Fin cfg0.N) (b : Fin 8) (hb : b.val = t.val)
include hb

/-- The probabilities of the image. -/
theorem block0 (a : Fin 20000) (e : Fin 80) :
    (iblk m c 0 t : Vec Ideal S1x20000x80 .f32) (ix3 0 a e)
      = (m ((c : Thread nD τ).loc main_arg0) : Vec Ideal S8x20000x80 .f32) (ix3 b a e) := by
  obtain ⟨h0, -⟩ := places t
  rw [← V_main_arg0 m c]
  blk_ext [iblk, h0]

/-- The regressions of the image, transposed. -/
theorem block1 (k : Fin 4) (a : Fin 20000) :
    (iblk m c 1 t : Vec Ideal S1x1x4x20000 .f32) (ix4 0 0 k a)
      = (m ((c : Thread nD τ).loc main_arg1) : Vec Ideal S8x20000x4 .f32) (ix3 b a k) := by
  obtain ⟨-, h1, -⟩ := places t
  have h : (iblk m c 1 t : Vec Ideal S1x1x4x20000 .f32) (ix4 0 0 k a)
      = (V m c main_v2 : Vec Ideal S8x1x4x20000 .f32) (ix4 b 0 k a) := by
    blk_ext [iblk, h1]
  rw [h]
  simp only [V, V0, hostOps0, List.flatten_cons, List.flatten_nil, List.append_nil]
  after_results_simp
  pointwise

/-- The anchors, transposed. -/
theorem block2 (k : Fin 4) (a : Fin 20000) :
    (iblk m c 2 t : Vec Ideal S1x4x20000 .f32) (ix3 0 k a)
      = (m ((c : Thread nD τ).loc main_arg3) : Vec Ideal S1x20000x4 .f32) (ix3 0 a k) := by
  obtain ⟨-, -, h2, -⟩ := places t
  have h : (iblk m c 2 t : Vec Ideal S1x4x20000 .f32) (ix3 0 k a)
      = (V m c main_v6 : Vec Ideal S1x4x20000 .f32) (ix3 0 k a) := by
    blk_ext [iblk, h2]
  rw [h]
  simp only [V, V0, hostOps0, List.flatten_cons, List.flatten_nil, List.append_nil]
  after_results_simp
  pointwise

/-- The boxes of the image. -/
theorem block3 (k : Fin 32) (e : Fin 5) :
    (iblk m c 3 t : Vec Ideal S1x32x5 .f32) (ix3 0 k e)
      = (m ((c : Thread nD τ).loc main_arg4) : Vec Ideal S8x32x11 .f32) (ix3 b k (e.castLE (by decide))) := by
  obtain ⟨-, -, -, h3, -⟩ := places t
  have h : (iblk m c 3 t : Vec Ideal S1x32x5 .f32) (ix3 0 k e) = (V m c main_v7 : Vec Ideal S8x32x5 .f32) (ix3 b k e) := by
    blk_ext [iblk, h3]
  rw [h]
  simp only [V, V0, hostOps0, List.flatten_cons, List.flatten_nil, List.append_nil]
  after_results_simp
  pointwise
  rfl

/-- The boxes of the image, transposed. -/
theorem block4 (e : Fin 5) (k : Fin 32) :
    (iblk m c 4 t : Vec Ideal S1x5x32 .f32) (ix3 0 e k)
      = (m ((c : Thread nD τ).loc main_arg4) : Vec Ideal S8x32x11 .f32) (ix3 b k (e.castLE (by decide))) := by
  obtain ⟨-, -, -, -, h4, -⟩ := places t
  have h : (iblk m c 4 t : Vec Ideal S1x5x32 .f32) (ix3 0 e k) = (V m c main_v8 : Vec Ideal S8x5x32 .f32) (ix3 b e k) := by
    blk_ext [iblk, h4]
  rw [h]
  simp only [V, V0, hostOps0, List.flatten_cons, List.flatten_nil, List.append_nil]
  after_results_simp
  pointwise
  rfl

end Cert.KernelIdeal.Focal

end
-- ==== Proof.KernelArray.lean ====
module

public import proofs.«01_k».proof.Proof.KernelBlock
public import proofs.«01_k».proof.Proof.KernelWindows

/-!
The output array after the run: row `b` holds, in lanes zero, one and two, the focal sum, the smooth sum and the number
of positive anchors of image `b`.
-/

@[expose] public section

noncomputable section

namespace Cert.KernelIdeal.Focal

open Cert.KernelIdeal Cert.KernelIdeal.Gen Cert.FocalLoss Idealize.ShloMosaic Idealize.ShloMosaic.TcCoe Idealize.SL.Sem

variable (m : (ℓ : Loc nD τ sig) → Buf (Elt Ideal) ℓ) (c : Dev nD)

/-- The probabilities of the arguments. -/
def probs (b : Fin 8) (a : Fin 20000) (e : Fin 80) : EReal :=
  (m ((c : Thread nD τ).loc main_arg0) : Vec Ideal S8x20000x80 .f32) (ix3 b a e)

/-- The regressions of the arguments. -/
def regressions (b : Fin 8) (a : Fin 20000) (k : Fin 4) : EReal :=
  (m ((c : Thread nD τ).loc main_arg1) : Vec Ideal S8x20000x4 .f32) (ix3 b a k)

/-- The anchors of the arguments. -/
def anchors (a : Fin 20000) (k : Fin 4) : EReal :=
  (m ((c : Thread nD τ).loc main_arg3) : Vec Ideal S1x20000x4 .f32) (ix3 0 a k)

/-- The annotations of the arguments. -/
def boxes (b : Fin 8) (k : Fin 32) (e : Fin 11) : EReal :=
  (m ((c : Thread nD τ).loc main_arg4) : Vec Ideal S8x32x11 .f32) (ix3 b k e)

/-- The row of an image. -/
def sums (b : Fin 8) (l : Fin 128) : EReal :=
  lanes (focalSum (probs m c b) (anchors m c) (boxes m c b)) (smoothSum (regressions m c b) (anchors m c) (boxes m c b))
    (positives (anchors m c) (boxes m c b)) l

/-- The row that a point works on. -/
theorem offset (t : Fin cfg0.N) (b : Fin 8) (hb : b.val = t.val) : k0_off1 (grid0.coords t) = ![b.val, 0] := by
  rw [hb]
  exact (by decide +kernel : ∀ t : Fin grid0.N, k0_off1 (grid0.coords t) = ![t.val, 0]) t

variable (q : Fin 8 → Fin 20000 → Fin 80 → ℝ) (hpq : ∀ b a e, probs m c b a e = q b a e)
  (hq0 : ∀ b a e, 0 < q b a e) (hq1 : ∀ b a e, q b a e < 1)
include hpq hq0 hq1

/-- The row stored at a point is the row found plus the image's sums. -/
theorem row_sums (t : Fin cfg0.N) (b : Fin 8) (hb : b.val = t.val) (old : Vec Ideal S1x128 .f32) (l : Fin 128) :
    row (iblk m c 0 t) (iblk m c 1 t) (iblk m c 2 t) (iblk m c 3 t) (iblk m c 4 t) old (ix2 0 l) = old (ix2 0 l) + sums m c b l :=
  row_eq (anchors m c) (boxes m c b) (probs m c b) (regressions m c b) _ _ _ _ _ old (block0 m c t b hb)
    (fun a k => block1 m c t b hb k a) (block2 m c t b hb) (block3 m c t b hb) (block4 m c t b hb) (q b) (hpq b) (hq0 b) (hq1 b) l

/-- After point `n` the rows up to `n` hold their sums and the later rows are zero. -/
theorem after_point : ∀ (n : ℕ) (hn : n < cfg0.N) (d : Fin 8) (l : Fin 128),
    (outsAt0 m c n hn : Vec Ideal S8x128 .f32) (ix2 d l) = if d.val ≤ n then sums m c d l else 0
  | 0, hn, d, l => by
    have hb : (0 : Fin 8).val = (⟨0, hn⟩ : Fin cfg0.N).val := rfl
    rw [outsAt0_A m c ⟨0, hn⟩ rfl]
    refine (first_point c _ _ _ _ _ _ _ _ _ _ _ _ _ _ _ _ _ _ _ 0 (offset ⟨0, hn⟩ 0 hb) d l).trans ?_
    rw [row_sums m c q hpq hq0 hq1 _ 0 hb, zero_add]
    by_cases h : d = 0
    · subst h; rfl
    · rw [if_neg h, if_neg (fun e => h (Fin.ext (Nat.le_zero.mp e)))]
  | n + 1, hn, d, l => by
    have h8 : n + 1 < 8 := lt_of_lt_of_eq hn N_0
    have hb : (⟨n + 1, h8⟩ : Fin 8).val = (⟨n + 1, hn⟩ : Fin cfg0.N).val := rfl
    rw [outsAt0_B m c ⟨n + 1, hn⟩ (by rw [Nat.mod_eq_of_lt h8]; exact Nat.succ_ne_zero n)]
    refine (later c _ _ _ _ _ _ _ _ _ _ _ _ _ _ _ _ _ _ _ _ ⟨n + 1, h8⟩ (offset ⟨n + 1, hn⟩ _ hb) d l).trans ?_
    rw [row_sums m c q hpq hq0 hq1 _ _ hb]
    have ih := after_point n (Nat.lt_of_succ_lt hn)
    by_cases h : d = ⟨n + 1, h8⟩
    · subst h
      rw [if_pos rfl, if_pos (le_refl _)]
      refine (congrArg (· + sums m c ⟨n + 1, h8⟩ l) ((ih ⟨n + 1, h8⟩ l).trans (if_neg (Nat.not_succ_le_self n)))).trans (zero_add _)
    · rw [if_neg h]
      refine (ih d l).trans (if_congr ⟨Nat.le_succ_of_le, fun e => ?_⟩ rfl rfl)
      exact Nat.le_of_lt_succ (lt_of_le_of_ne e fun e' => h (Fin.ext e'))

/-- The output array after the run. -/
theorem array (d : Fin 8) (l : Fin 128) :
    ((dats m 0 c).arrAt 5 (cfgs 0).N : Vec Ideal S8x128 .f32) (ix2 d l) = sums m c d l := by
  have h : (dats m 0 c).arrAt 5 (cfgs 0).N = (fun y : S8x128.Idx => sums m c (y 0) (y 1) : Vec Ideal S8x128 .f32) := by
    refine (dats m 0 c).arrAt_eq_of_covers 5 _ (by decide +kernel) fun t hf y => ?_
    have h7 : t.val % 8 = 7 := (flush0_5 t).mp hf
    obtain ⟨-, -, -, -, -, h5⟩ := places t
    blk_simp
    rw [after0_5]
    have hy : ∀ z : S8x128.Idx, z = ix2 (z 0) (z 1) := fun z => funext fun a => match a with | 0 => rfl | 1 => rfl
    have he : (win0_5.blk t).view.emb y = (y : S8x128.Idx) := by blk_ext [h5]
    rw [he]
    refine (congrArg (outsAt0 m c t.val t.isLt : Vec Ideal S8x128 .f32) (hy y)).trans ?_
    refine (after_point m c q hpq hq0 hq1 t.val t.isLt (y 0) (y 1)).trans (if_pos ?_)
    have h8 : (y 0).val < 8 := (y 0).isLt
    omega
  exact congrFun h (ix2 d l)

end Cert.KernelIdeal.Focal

end
-- ==== Proof.KernelTail.lean ====
module

public import proofs.«01_k».proof.Proof.KernelArray

/-!
The host operations after the kernel: from the output array to the loss.
-/

@[expose] public section

noncomputable section

namespace Cert.KernelIdeal.Focal

open Cert.KernelIdeal Cert.KernelIdeal.Gen Cert.FocalLoss Idealize.ShloMosaic Idealize.ShloMosaic.TcCoe Idealize.SL.Sem
  Idealize.ShloMosaic.StableHlo

section
variable {F : FTy → Type} [FloatOps F] [Named F]

/-- Two numbers as a vector of two. -/
def joinPair : (⟨S1, .f32⟩ : BufTy).Contents (Elt F) → (⟨S1, .f32⟩ : BufTy).Contents (Elt F) → (⟨S2, .f32⟩ : BufTy).Contents (Elt F) :=
  fun a b => concatenate S2 0 [⟨S1, a⟩, ⟨S1, b⟩] concatenates_S1_S1_S2_d0

/-- The host operations after the kernel, the last one by its name. -/
abbrev tailOps : List (HloOp τ sig (Elt F)) :=
  [ unary main_call0_v0 main_call0_v1 ((extractStridedSlice S8x1 ![0, 0] · slices_S8x128_S8x1_0_0) : (⟨S8x128, .f32⟩ : BufTy).Contents (Elt F) → (⟨S8x1, .f32⟩ : BufTy).Contents (Elt F)),
    reshape main_call0_v1 main_call0_v2 (rfl : (.f32 : EltTy) = .f32) shapeCasts_S8x1_S8,
    unary main_call0_v0 main_call0_v3 ((extractStridedSlice S8x1 ![0, 1] · slices_S8x128_S8x1_0_1) : (⟨S8x128, .f32⟩ : BufTy).Contents (Elt F) → (⟨S8x1, .f32⟩ : BufTy).Contents (Elt F)),
    reshape main_call0_v3 main_call0_v4 (rfl : (.f32 : EltTy) = .f32) shapeCasts_S8x1_S8,
    unary main_call0_v0 main_call0_v5 ((extractStridedSlice S8x1 ![0, 2] · slices_S8x128_S8x1_0_2) : (⟨S8x128, .f32⟩ : BufTy).Contents (Elt F) → (⟨S8x1, .f32⟩ : BufTy).Contents (Elt F)),
    reshape main_call0_v5 main_call0_v6 (rfl : (.f32 : EltTy) = .f32) shapeCasts_S8x1_S8,
    nullary main_call0_cst (constant S_ .f32 0x3F800000#32),
    unary main_call0_cst main_call0_v7 ((broadcastInDim S8 ![] bcast_S_S8) : (⟨S_, .f32⟩ : BufTy).Contents (Elt F) → (⟨S8, .f32⟩ : BufTy).Contents (Elt F)),
    binary main_call0_v6 main_call0_v7 main_call0_v8 (maximumf : (⟨S8, .f32⟩ : BufTy).Contents (Elt F) → (⟨S8, .f32⟩ : BufTy).Contents (Elt F) → (⟨S8, .f32⟩ : BufTy).Contents (Elt F)),
    binary main_call0_v2 main_call0_v8 main_call0_v9 (Host.divf : (⟨S8, .f32⟩ : BufTy).Contents (Elt F) → (⟨S8, .f32⟩ : BufTy).Contents (Elt F) → (⟨S8, .f32⟩ : BufTy).Contents (Elt F)),
    nullary main_call0_cst_0 (constant S_ .f32 0x40800000#32),
    unary main_call0_cst_0 main_call0_v10 ((broadcastInDim S8 ![] bcast_S_S8) : (⟨S_, .f32⟩ : BufTy).Contents (Elt F) → (⟨S8, .f32⟩ : BufTy).Contents (Elt F)),
    binary main_call0_v6 main_call0_v10 main_call0_v11 (mulf : (⟨S8, .f32⟩ : BufTy).Contents (Elt F) → (⟨S8, .f32⟩ : BufTy).Contents (Elt F) → (⟨S8, .f32⟩ : BufTy).Contents (Elt F)),
    nullary main_call0_cst_1 (constant S_ .f32 0x3F800000#32),
    unary main_call0_cst_1 main_call0_v12 ((broadcastInDim S8 ![] bcast_S_S8) : (⟨S_, .f32⟩ : BufTy).Contents (Elt F) → (⟨S8, .f32⟩ : BufTy).Contents (Elt F)),
    binary main_call0_v11 main_call0_v12 main_call0_v13 (maximumf : (⟨S8, .f32⟩ : BufTy).Contents (Elt F) → (⟨S8, .f32⟩ : BufTy).Contents (Elt F) → (⟨S8, .f32⟩ : BufTy).Contents (Elt F)),
    binary main_call0_v4 main_call0_v13 main_call0_v14 (Host.divf : (⟨S8, .f32⟩ : BufTy).Contents (Elt F) → (⟨S8, .f32⟩ : BufTy).Contents (Elt F) → (⟨S8, .f32⟩ : BufTy).Contents (Elt F)),
    nullary main_call0_cst_2 (constant S_ .f32 0x00000000#32),
    binary main_call0_v9 main_call0_cst_2 main_call0_v15 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_call0_cst_3 (constant S_ .f32 0x41000000#32),
    binary main_call0_v15 main_call0_cst_3 main_call0_v16 (Host.divf : (⟨S_, .f32⟩ : BufTy).Contents (Elt F) → (⟨S_, .f32⟩ : BufTy).Contents (Elt F) → (⟨S_, .f32⟩ : BufTy).Contents (Elt F)),
    nullary main_call0_cst_4 (constant S_ .f32 0x00000000#32),
    binary main_call0_v14 main_call0_cst_4 main_call0_v17 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_call0_cst_5 (constant S_ .f32 0x41000000#32),
    binary main_call0_v17 main_call0_cst_5 main_call0_v18 (Host.divf : (⟨S_, .f32⟩ : BufTy).Contents (Elt F) → (⟨S_, .f32⟩ : BufTy).Contents (Elt F) → (⟨S_, .f32⟩ : BufTy).Contents (Elt F)),
    unary main_call0_v16 main_call0_v19 ((broadcastInDim S1 ![] bcast_S_S1) : (⟨S_, .f32⟩ : BufTy).Contents (Elt F) → (⟨S1, .f32⟩ : BufTy).Contents (Elt F)),
    unary main_call0_v18 main_call0_v20 ((broadcastInDim S1 ![] bcast_S_S1) : (⟨S_, .f32⟩ : BufTy).Contents (Elt F) → (⟨S1, .f32⟩ : BufTy).Contents (Elt F)),
    binary main_call0_v19 main_call0_v20 main_v9 (joinPair : (⟨S1, .f32⟩ : BufTy).Contents (Elt F) → (⟨S1, .f32⟩ : BufTy).Contents (Elt F) → (⟨S2, .f32⟩ : BufTy).Contents (Elt F)) ]

theorem tailOps_eq : (hostOps1 : List (HloOp τ sig (Elt F))) = tailOps := rfl

end

/-- The loss of what an array holds in its lanes zero, one and two. -/
theorem tail_value (W : Valuation τ sig (Elt Ideal)) (f s n : Fin 8 → EReal)
    (hW : ∀ b l, (W (Proc.devRef .tc main_call0_v0) : Vec Ideal S8x128 .f32) (ix2 b l) = lanes (f b) (s b) (n b) l) (i : Fin 2) :
    (after hostOps1 W (Proc.devRef .tc main_v9) : Vec Ideal S2 .f32) (ix1 i)
      = ![Ideal.div (∑ b, Ideal.div (f b) (max (n b) 1)) (lit 0x41000000#32),
          Ideal.div (∑ b, Ideal.div (s b) (max (n b * lit 0x40800000#32) 1)) (lit 0x41000000#32)] i := by
  have h0 : ∀ c s n : EReal, lanes c s n 0 = c := fun c s n => by simp [lanes]
  have h1 : ∀ c s n : EReal, lanes c s n 1 = s := fun c s n => by simp [lanes]
  have h2 : ∀ c s n : EReal, lanes c s n 2 = n := fun c s n => by simp [lanes]
  rw [tailOps_eq]
  simp only [tailOps]
  after_results_simp
  dsimp only [joinPair]
  pointwise
  simp only [hW, h0, h1, h2]
  match i with
  | ⟨0, _⟩ => rfl
  | ⟨1, _⟩ => rfl

variable (m : (ℓ : Loc nD τ sig) → Buf (Elt Ideal) ℓ) (ρ : Dev nD → PrngReg)

/-- What the host operations after the kernel leave in its result. -/
def result (c : Dev nD) : Buf (Elt Ideal) ((c.tc : Thread nD τ).loc main_v9) :=
  Pipeline.afterTail₀ cfgs (dats m) 0 (V0 m) [hostOps1] c main_v9

/-- The kernel's result is the loss of its arguments, when the probabilities are reals strictly between zero and one. -/
theorem value (c : Dev nD) (q : Fin 8 → Fin 20000 → Fin 80 → ℝ) (hpq : ∀ b a e, probs m c b a e = q b a e)
    (hq0 : ∀ b a e, 0 < q b a e) (hq1 : ∀ b a e, q b a e < 1) (i : Fin 2) :
    (result m c : Vec Ideal S2 .f32) (ix1 i)
      = loss (probs m c) (regressions m c) (anchors m c) (boxes m c) i := by
  unfold result Pipeline.afterTail₀
  refine (tail_value _ (fun b => focalSum (probs m c b) (anchors m c) (boxes m c b))
    (fun b => smoothSum (regressions m c b) (anchors m c) (boxes m c b)) (fun b => positives (anchors m c) (boxes m c b))
    (fun b l => ?_) i).trans rfl
  refine Eq.trans ?_ (array m c q hpq hq0 hq1 b l)
  exact congrFun (Pipeline.withArrays_arr (cfgs 0).spec winFacts0.arr_inj c (V0 m c) (fun w => (dats m 0 c).arrAt w (cfgs 0).N) 5) (ix2 b l)

/-- Every execution of the kernel ends with its result at what the host operations leave of the output array, and its
arguments as they were. -/
theorem run : θ_run defs (onTc (τ := τ) (main (F := Ideal))) ⟨m, fun _ => 0, ρ⟩ (fun r => ∀ c : Dev nD,
    r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).2 main_v9 (Pipeline.mem_restRefs_of main_v9 (by decide) (by decide)), h.2 c⟩)
    (θ_run_and (run_main m ρ) (unchanged m ρ))

end Cert.KernelIdeal.Focal

end
-- ==== Proof.Probabilities.lean ====
module

public import proofs.«01_k».proof.Defs
public import proofs.«01_k».proof.Proof.KernelTail
public import proofs.«01_k».proof.Proof.RefFocal

/-!
What the precondition says of the probabilities: each is a real number strictly between zero and one, and the
reference's clipping leaves it as it is.
-/

@[expose] public section

noncomputable section

namespace Cert.Probabilities

open Cert.FocalLoss Cert.ReferenceIdeal.Focal Idealize.ShloMosaic Idealize.ShloMosaic.TcCoe Idealize.SL.Sem

/-- The side conditions of the precondition's program. -/
theorem facts : Cert.Pre_probabilities.Facts := ⟨by decide⟩

/-- A mask bit of two propositions is set only when both hold. -/
theorem both_of_bits {p q : Prop} (h : IntOp.andi (bit p) (bit q) = 1#1) : p ∧ q := by
  unfold bit at h; by_cases hp : p <;> by_cases hq : q <;> simp_all [IntOp.andi]

/-- The least and the greatest probability the precondition admits. -/
theorem least_pos : (0 : EReal) < lit 0x38D1B717#32 := by
  simp [lit, Ideal.ofBits, Ideal.ieee, -EReal.coe_mul]

theorem greatest_lt_one : lit 0x3F7FF972#32 < (1 : EReal) := by
  simp only [lit, Ideal.ofBits, Ideal.ieee, ← EReal.coe_one]
  refine lt_of_eq_of_lt (b := ((16775538 / 16777216 : ℝ) : EReal)) ?_ (EReal.coe_lt_coe_iff.mpr (by norm_num))
  simp [-EReal.coe_mul]; norm_num

/-- An argument that meets the precondition lies between the two bounds. -/
theorem bounds [Cert.Pre_probabilities.Facts] (x : FVec Ideal Cert.Pre_probabilities.S8x20000x80 .f32) (a1 a2 a3 a4 a5 a6)
    (h : Cert.Pre_probabilities.fn (F := Ideal) x a1 a2 a3 a4 a5 a6 = fun _ => 1#1) (b : Fin 8) (a : Fin 20000) (e : Fin 80) :
    lit 0x38D1B717#32 ≤ x (ix3 b a e) ∧ x (ix3 b a e) ≤ lit 0x3F7FF972#32 := by
  have h' := congrFun h (ix3 b a e)
  unfold Cert.Pre_probabilities.fn at h'
  revert h'
  pointwise
  intro h'
  rw [ofBool_decide, ofBool_decide] at h'
  exact both_of_bits h'

/-- What lies between the two bounds is a real number strictly between zero and one. -/
theorem real_of_bounds {p : EReal} (h0 : lit 0x38D1B717#32 ≤ p) (h1 : p ≤ lit 0x3F7FF972#32) :
    p = (p.toReal : EReal) ∧ 0 < p.toReal ∧ p.toReal < 1 := by
  have hp : (0 : EReal) < p := least_pos.trans_le h0
  have hp' : p < 1 := h1.trans_lt greatest_lt_one
  have e : (p.toReal : EReal) = p :=
    EReal.coe_toReal (hp'.trans (EReal.coe_lt_top 1)).ne ((EReal.bot_lt_coe 0).trans hp).ne'
  refine ⟨e.symm, ?_, ?_⟩
  · rw [← e, ← EReal.coe_zero] at hp; exact EReal.coe_lt_coe_iff.mp hp
  · rw [← e, ← EReal.coe_one] at hp'; exact EReal.coe_lt_coe_iff.mp hp'

/-- What lies between the two bounds is left as it is by the clipping. -/
theorem clip_of_bounds {p : EReal} (h0 : lit 0x38D1B717#32 ≤ p) (h1 : p ≤ lit 0x3F7FF972#32) :
    min (lit 0x3F7FF972#32) (max (lit 0x38D1B717#32) p) = p := by
  rw [max_eq_right h0, min_eq_right h1]

end Cert.Probabilities

end
-- ==== Proof.Agreement.lean ====
module

public import proofs.«01_k».proof.Proof.Probabilities
public import proofs.«01_k».proof.Proof.RefValue
public import Idealize.ShloMosaic.Lib.Quiescent

/-!
The kernel and the reference compute one loss, and the reference's own frame.
-/

@[expose] public section

noncomputable section

namespace Cert.Agreement

open Cert.FocalLoss Cert.Probabilities Idealize.ShloMosaic Idealize.ShloMosaic.TcCoe Idealize.SL.Sem
  Idealize.ShloMosaic.StableHlo

section
open Cert.ReferenceIdeal Cert.ReferenceIdeal.Focal

/-- What the reference's operations leave in its result. -/
def result (m : (ℓ : Loc nD τ sig) → Buf (Elt Ideal) ℓ) (c : Dev nD) : Buf (Elt Ideal) ((c.tc : Thread nD τ).loc main_v235) :=
  after ops (launchContents m c) (Proc.devRef .tc main_v235)

/-- The reference's result is the loss of its arguments. -/
theorem reference_value (m : (ℓ : Loc nD τ sig) → Buf (Elt Ideal) ℓ) (c : Dev nD) (i : Fin 2) :
    (result m c : FVec Ideal S2 .f32) (ix1 i)
      = loss (clipped (launchContents m c)) (regressions (launchContents m c)) (anchors (launchContents m c))
        (boxes (launchContents m c)) i :=
  value (launchContents m c) i

/-- The arrays the reference reads, from arguments given at its launch. -/
theorem reference_reads (m : (ℓ : Loc nD τ sig) → Buf (Elt Ideal) ℓ) (c : Dev nD)
    (x0 : FVec Ideal S8x20000x80 .f32) (x1 : FVec Ideal S8x20000x4 .f32) (x3 : FVec Ideal S1x20000x4 .f32)
    (x4 : FVec Ideal S8x32x11 .f32) (e0 : m ((c.tc : Thread nD τ).loc main_arg0) = x0)
    (e1 : m ((c.tc : Thread nD τ).loc main_arg1) = x1) (e3 : m ((c.tc : Thread nD τ).loc main_arg3) = x3)
    (e4 : m ((c.tc : Thread nD τ).loc main_arg4) = x4)
    (hb : ∀ b a e, lit 0x38D1B717#32 ≤ x0 (ix3 b a e) ∧ x0 (ix3 b a e) ≤ lit 0x3F7FF972#32) :
    clipped (launchContents m c) = (fun b a e => x0 (ix3 b a e))
      ∧ regressions (launchContents m c) = (fun b a k => x1 (ix3 b a k))
      ∧ anchors (launchContents m c) = (fun a k => x3 (ix3 0 a k))
      ∧ boxes (launchContents m c) = (fun b k e => x4 (ix3 b k e)) := by
  subst e0 e1 e3 e4
  exact ⟨funext fun b => funext fun a => funext fun e => clip_of_bounds (hb b a e).1 (hb b a e).2, rfl, rfl, rfl⟩

/-- Every execution of the reference ends with its result at what the operations compute, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v235) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c _,
    (h c _).trans (kept _ main_arg0 (by simp)), (h c _).trans (kept _ main_arg1 (by simp)),
    (h c _).trans (kept _ main_arg2 (by simp)), (h c _).trans (kept _ main_arg3 (by simp)),
    (h c _).trans (kept _ main_arg4 (by simp)), (h c _).trans (kept _ main_arg5 (by simp)),
    (h c _).trans (kept _ main_arg6 (by simp))⟩) (run m ρ)

/-- The reference leaves its arguments alone and, having no semaphore, every counter at zero. -/
theorem reference_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩) (reference_run m ρ)

end

/-- The two results are one array, from equal arguments that meet the precondition. -/
theorem same_result [Cert.Pre_probabilities.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_probabilities m) (c : Dev Cert.KernelIdeal.nD)
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (e3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    result m' c = Cert.KernelIdeal.Focal.result m c := by
  have hb : ∀ b a e, lit 0x38D1B717#32 ≤ Cert.KernelIdeal.Focal.probs m c b a e
      ∧ Cert.KernelIdeal.Focal.probs m c b a e ≤ lit 0x3F7FF972#32 := fun b a e => bounds _ _ _ _ _ _ _ (hpre c) b a e
  have hk := Cert.KernelIdeal.Focal.value m c (fun b a e => (Cert.KernelIdeal.Focal.probs m c b a e).toReal)
    (fun b a e => (real_of_bounds (hb b a e).1 (hb b a e).2).1) (fun b a e => (real_of_bounds (hb b a e).1 (hb b a e).2).2.1)
    (fun b a e => (real_of_bounds (hb b a e).1 (hb b a e).2).2.2)
  have hr := reference_value m' c
  obtain ⟨r0, r1, r3, r4⟩ := reference_reads m' c _ _ _ _ e0 e1 e3 e4 hb
  rw [r0, r1, r3, r4] at hr
  refine funext fun y => ?_
  have hy : y = ix1 (y 0) := by funext j; match j with | ⟨0, _⟩ => rfl
  rw [hy]
  exact (hr (y 0)).trans (hk (y 0)).symm

/-- The kernel and the reference end with one result, from equal arguments that meet the precondition. -/
theorem algebraic [Cert.Pre_probabilities.Facts] :
    Cert.algebraic_KernelIdeal_ReferenceIdeal_pre_probabilities
      (hKernelIdeal := Cert.KernelIdeal.Gen.facts) (hReferenceIdeal := Cert.ReferenceIdeal.Gen.facts) := by
  intro m g m' g' hpre hagree
  exact ⟨fun c => Cert.KernelIdeal.Focal.result m c, Cert.KernelIdeal.Focal.run m g, (θ_run _ _ _).mono
    (fun r h c => ⟨(h c).1.trans
      (same_result m m' hpre c (hagree c).1 (hagree c).2.1 (hagree c).2.2.2.1 (hagree c).2.2.2.2.1), (h c).2⟩)
    (reference_run m' g')⟩

end Cert.Agreement

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- The two named constants stand for the words they replace. -/
theorem preserves : Cert.preserves_Kernel_KernelIdeal :=
  ⟨IdealRules.named_const.statement Cert.KernelIdeal.κ "inv_tenth" .f32 0x41200000#32 _ rfl,
    IdealRules.named_const.statement Cert.KernelIdeal.κ "inv_fifth" .f32 0x40A00000#32 _ rfl⟩

/-- Everything the test module states of the kernel. -/
theorem claim : Cert.Claim :=
  ⟨Cert.Kernel.Gen.facts, Cert.KernelIdeal.Gen.facts, Cert.ReferenceIdeal.Gen.facts, Cert.Probabilities.facts,
    fun m ρ _ => Cert.Kernel.Gen.frame m ρ, fun m ρ _ => Cert.KernelIdeal.Gen.frame m ρ,
    fun m ρ _ => Cert.KernelIdeal.Gen.frame m ρ, fun m ρ _ => Cert.Agreement.reference_frame m ρ,
    fun m ρ _ => Cert.Agreement.reference_frame m ρ, preserves,
    haveI := Cert.Probabilities.facts; Cert.Agreement.algebraic⟩

end Cert.Proof

end
